-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨2, ![512, 512]⟩ ⟨2, ![8192, 512]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![8192, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S512x512 : Shape := ⟨2, ![512, 512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel

variable [Facts]

def fn {F : FTy → Type} [FloatOps F] (main_arg0 : FVec F S512x512 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  main_v3
-- ==== Pre_finite_ReferenceIdeal.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  main_v3
-- ==== Kernel.lean ====
abbrev S512x512 : Shape := ⟨2, ![512, 512]⟩
abbrev S1x512 : Shape := ⟨2, ![1, 512]⟩
abbrev S4x1x512 : Shape := ⟨3, ![4, 1, 512]⟩
abbrev S4 : Shape := ⟨1, ![4]⟩
abbrev S_ : Shape := ⟨0, ![]⟩
abbrev S512 : Shape := ⟨1, ![512]⟩
abbrev S1 : Shape := ⟨1, ![1]⟩
abbrev S1x1x512 : Shape := ⟨3, ![1, 1, 512]⟩
abbrev S511x512 : Shape := ⟨2, ![511, 512]⟩
abbrev S2x512 : Shape := ⟨2, ![2, 512]⟩
abbrev S510x512 : Shape := ⟨2, ![510, 512]⟩
abbrev S4x512 : Shape := ⟨2, ![4, 512]⟩
abbrev S508x512 : Shape := ⟨2, ![508, 512]⟩
abbrev S8x512 : Shape := ⟨2, ![8, 512]⟩
abbrev S504x512 : Shape := ⟨2, ![504, 512]⟩
abbrev S16x512 : Shape := ⟨2, ![16, 512]⟩
abbrev S496x512 : Shape := ⟨2, ![496, 512]⟩
abbrev S32x512 : Shape := ⟨2, ![32, 512]⟩
abbrev S480x512 : Shape := ⟨2, ![480, 512]⟩
abbrev S64x512 : Shape := ⟨2, ![64, 512]⟩
abbrev S448x512 : Shape := ⟨2, ![448, 512]⟩
abbrev S128x512 : Shape := ⟨2, ![128, 512]⟩
abbrev S384x512 : Shape := ⟨2, ![384, 512]⟩
abbrev S256x512 : Shape := ⟨2, ![256, 512]⟩

abbrev nBuf : Space → Nat
  | .hbm => 2
  | .vmem => 4
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .local _ .vmem, ⟨0, _⟩ => ⟨S512x512, .f32⟩
  | .local _ .vmem, ⟨1, _⟩ => ⟨S512x512, .f32⟩
  | .local _ .vmem, ⟨2, _⟩ => ⟨S1x512, .f32⟩
  | .local _ .vmem, ⟨3, _⟩ => ⟨S4x1x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.subi v2 c1_i32_0
  let c0_i32 : BitVec 32 := 0#32
  let v6 : BitVec 1 := Scalar.cmpi .sge v4 c0_i32
  let v7 : BitVec 32 := Scalar.extui v6
  let c0_i32_2 : BitVec 32 := 0#32
  let v8 : BitVec 1 := Scalar.cmpi .ne v7 c0_i32_2
  v8

def k0_dev1 (d0 : Dev nD) : Nat :=
  let c0_i32_129 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.subi v2 c1_i32_0
  let c1_i32_128 : BitVec 32 := 1#32
  let v171 : BitVec 32 := Scalar.muli v4 c1_i32_128
  let v172 : BitVec 32 := Scalar.addi c0_i32_129 v171
  v172.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_3 : BitVec 32 := 16#32
  let v9 : BitVec 1 := Scalar.cmpi .slt v5 c16_i32_3
  let v10 : BitVec 32 := Scalar.extui v9
  let c0_i32_4 : BitVec 32 := 0#32
  let v11 : BitVec 1 := Scalar.cmpi .ne v10 c0_i32_4
  v11

def k0_dev2 (d0 : Dev nD) : Nat :=
  let c0_i32_130 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c15_i32_127 : BitVec 32 := 15#32
  let v171 : BitVec 32 := Scalar.minsi v5 c15_i32_127
  let c1_i32_129 : BitVec 32 := 1#32
  let v172 : BitVec 32 := Scalar.muli v171 c1_i32_129
  let v173 : BitVec 32 := Scalar.addi c0_i32_130 v172
  v173.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v18 : BitVec 32 := Scalar.subi v2 c2_i32
  let c0_i32_9 : BitVec 32 := 0#32
  let v20 : BitVec 1 := Scalar.cmpi .sge v18 c0_i32_9
  let v21 : BitVec 32 := Scalar.extui v20
  let c0_i32_10 : BitVec 32 := 0#32
  let v22 : BitVec 1 := Scalar.cmpi .ne v21 c0_i32_10
  v22

def k0_dev3 (d0 : Dev nD) : Nat :=
  let c0_i32_129 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v18 : BitVec 32 := Scalar.subi v2 c2_i32
  let c1_i32_128 : BitVec 32 := 1#32
  let v171 : BitVec 32 := Scalar.muli v18 c1_i32_128
  let v172 : BitVec 32 := Scalar.addi c0_i32_129 v171
  v172.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_8 : BitVec 32 := 2#32
  let v19 : BitVec 32 := Scalar.addi v2 c2_i32_8
  let c16_i32_11 : BitVec 32 := 16#32
  let v23 : BitVec 1 := Scalar.cmpi .slt v19 c16_i32_11
  let v24 : BitVec 32 := Scalar.extui v23
  let c0_i32_12 : BitVec 32 := 0#32
  let v25 : BitVec 1 := Scalar.cmpi .ne v24 c0_i32_12
  v25

def k0_dev4 (d0 : Dev nD) : Nat :=
  let c0_i32_130 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_8 : BitVec 32 := 2#32
  let v19 : BitVec 32 := Scalar.addi v2 c2_i32_8
  let c15_i32_127 : BitVec 32 := 15#32
  let v171 : BitVec 32 := Scalar.minsi v19 c15_i32_127
  let c1_i32_129 : BitVec 32 := 1#32
  let v172 : BitVec 32 := Scalar.muli v171 c1_i32_129
  let v173 : BitVec 32 := Scalar.addi c0_i32_130 v172
  v173.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v32 : BitVec 32 := Scalar.subi v2 c4_i32
  let c0_i32_16 : BitVec 32 := 0#32
  let v34 : BitVec 1 := Scalar.cmpi .sge v32 c0_i32_16
  let v35 : BitVec 32 := Scalar.extui v34
  let c0_i32_17 : BitVec 32 := 0#32
  let v36 : BitVec 1 := Scalar.cmpi .ne v35 c0_i32_17
  v36

def k0_dev5 (d0 : Dev nD) : Nat :=
  let c0_i32_129 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v32 : BitVec 32 := Scalar.subi v2 c4_i32
  let c1_i32_128 : BitVec 32 := 1#32
  let v171 : BitVec 32 := Scalar.muli v32 c1_i32_128
  let v172 : BitVec 32 := Scalar.addi c0_i32_129 v171
  v172.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_15 : BitVec 32 := 4#32
  let v33 : BitVec 32 := Scalar.addi v2 c4_i32_15
  let c16_i32_18 : BitVec 32 := 16#32
  let v37 : BitVec 1 := Scalar.cmpi .slt v33 c16_i32_18
  let v38 : BitVec 32 := Scalar.extui v37
  let c0_i32_19 : BitVec 32 := 0#32
  let v39 : BitVec 1 := Scalar.cmpi .ne v38 c0_i32_19
  v39

def k0_dev6 (d0 : Dev nD) : Nat :=
  let c0_i32_130 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_15 : BitVec 32 := 4#32
  let v33 : BitVec 32 := Scalar.addi v2 c4_i32_15
  let c15_i32_127 : BitVec 32 := 15#32
  let v171 : BitVec 32 := Scalar.minsi v33 c15_i32_127
  let c1_i32_129 : BitVec 32 := 1#32
  let v172 : BitVec 32 := Scalar.muli v171 c1_i32_129
  let v173 : BitVec 32 := Scalar.addi c0_i32_130 v172
  v173.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v46 : BitVec 32 := Scalar.subi v2 c8_i32
  let c0_i32_23 : BitVec 32 := 0#32
  let v48 : BitVec 1 := Scalar.cmpi .sge v46 c0_i32_23
  let v49 : BitVec 32 := Scalar.extui v48
  let c0_i32_24 : BitVec 32 := 0#32
  let v50 : BitVec 1 := Scalar.cmpi .ne v49 c0_i32_24
  v50

def k0_dev7 (d0 : Dev nD) : Nat :=
  let c0_i32_129 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v46 : BitVec 32 := Scalar.subi v2 c8_i32
  let c1_i32_128 : BitVec 32 := 1#32
  let v171 : BitVec 32 := Scalar.muli v46 c1_i32_128
  let v172 : BitVec 32 := Scalar.addi c0_i32_129 v171
  v172.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_22 : BitVec 32 := 8#32
  let v47 : BitVec 32 := Scalar.addi v2 c8_i32_22
  let c16_i32_25 : BitVec 32 := 16#32
  let v51 : BitVec 1 := Scalar.cmpi .slt v47 c16_i32_25
  let v52 : BitVec 32 := Scalar.extui v51
  let c0_i32_26 : BitVec 32 := 0#32
  let v53 : BitVec 1 := Scalar.cmpi .ne v52 c0_i32_26
  v53

def k0_dev8 (d0 : Dev nD) : Nat :=
  let c0_i32_130 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_22 : BitVec 32 := 8#32
  let v47 : BitVec 32 := Scalar.addi v2 c8_i32_22
  let c15_i32_127 : BitVec 32 := 15#32
  let v171 : BitVec 32 := Scalar.minsi v47 c15_i32_127
  let c1_i32_129 : BitVec 32 := 1#32
  let v172 : BitVec 32 := Scalar.muli v171 c1_i32_129
  let v173 : BitVec 32 := Scalar.addi c0_i32_130 v172
  v173.toNat
def k0_amt1 (d0 : Dev nD) : BitVec 32 :=
  let c0_i32_6 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.subi v2 c1_i32_0
  let c0_i32_5 : BitVec 32 := 0#32
  let v12 : BitVec 1 := Scalar.cmpi .sge v4 c0_i32_5
  let v13 : BitVec 32 := Scalar.extui v12
  let v14 : BitVec 32 := Scalar.addi c0_i32_6 v13
  let c1_i32_1 : BitVec 32 := 1#32
  let v5 : BitVec 32 := Scalar.addi v2 c1_i32_1
  let c16_i32_7 : BitVec 32 := 16#32
  let v15 : BitVec 1 := Scalar.cmpi .slt v5 c16_i32_7
  let v16 : BitVec 32 := Scalar.extui v15
  let v17 : BitVec 32 := Scalar.addi v14 v16
  let c2_i32 : BitVec 32 := 2#32
  let v18 : BitVec 32 := Scalar.subi v2 c2_i32
  let c0_i32_13 : BitVec 32 := 0#32
  let v26 : BitVec 1 := Scalar.cmpi .sge v18 c0_i32_13
  let v27 : BitVec 32 := Scalar.extui v26
  let v28 : BitVec 32 := Scalar.addi v17 v27
  let c2_i32_8 : BitVec 32 := 2#32
  let v19 : BitVec 32 := Scalar.addi v2 c2_i32_8
  let c16_i32_14 : BitVec 32 := 16#32
  let v29 : BitVec 1 := Scalar.cmpi .slt v19 c16_i32_14
  let v30 : BitVec 32 := Scalar.extui v29
  let v31 : BitVec 32 := Scalar.addi v28 v30
  let c4_i32 : BitVec 32 := 4#32
  let v32 : BitVec 32 := Scalar.subi v2 c4_i32
  let c0_i32_20 : BitVec 32 := 0#32
  let v40 : BitVec 1 := Scalar.cmpi .sge v32 c0_i32_20
  let v41 : BitVec 32 := Scalar.extui v40
  let v42 : BitVec 32 := Scalar.addi v31 v41
  let c4_i32_15 : BitVec 32 := 4#32
  let v33 : BitVec 32 := Scalar.addi v2 c4_i32_15
  let c16_i32_21 : BitVec 32 := 16#32
  let v43 : BitVec 1 := Scalar.cmpi .slt v33 c16_i32_21
  let v44 : BitVec 32 := Scalar.extui v43
  let v45 : BitVec 32 := Scalar.addi v42 v44
  let c8_i32 : BitVec 32 := 8#32
  let v46 : BitVec 32 := Scalar.subi v2 c8_i32
  let c0_i32_27 : BitVec 32 := 0#32
  let v54 : BitVec 1 := Scalar.cmpi .sge v46 c0_i32_27
  let v55 : BitVec 32 := Scalar.extui v54
  let v56 : BitVec 32 := Scalar.addi v45 v55
  let c8_i32_22 : BitVec 32 := 8#32
  let v47 : BitVec 32 := Scalar.addi v2 c8_i32_22
  let c16_i32_28 : BitVec 32 := 16#32
  let v57 : BitVec 1 := Scalar.cmpi .slt v47 c16_i32_28
  let v58 : BitVec 32 := Scalar.extui v57
  let v59 : BitVec 32 := Scalar.addi v56 v58
  v59

def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_39 : BitVec 32 := 1#32
  let v75 : BitVec 32 := Scalar.addi v2 c1_i32_39
  let c16_i32_40 : BitVec 32 := 16#32
  let v76 : BitVec 1 := Scalar.cmpi .slt v75 c16_i32_40
  let v77 : BitVec 32 := Scalar.extui v76
  let c0_i32_44 : BitVec 32 := 0#32
  let v78 : BitVec 1 := Scalar.cmpi .ne v77 c0_i32_44
  v78

def k0_dev9 (d0 : Dev nD) : Nat :=
  let c0_i32_128 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_32 : BitVec 32 := 1#32
  let v67 : BitVec 32 := Scalar.addi v2 c1_i32_32
  let c15_i32 : BitVec 32 := 15#32
  let v68 : BitVec 32 := Scalar.minsi v67 c15_i32
  let c1_i32_127 : BitVec 32 := 1#32
  let v171 : BitVec 32 := Scalar.muli v68 c1_i32_127
  let v172 : BitVec 32 := Scalar.addi c0_i32_128 v171
  v172.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_73 : BitVec 32 := 2#32
  let v130 : BitVec 32 := Scalar.addi v2 c2_i32_73
  let c16_i32_74 : BitVec 32 := 16#32
  let v131 : BitVec 1 := Scalar.cmpi .slt v130 c16_i32_74
  let v132 : BitVec 32 := Scalar.extui v131
  let c0_i32_78 : BitVec 32 := 0#32
  let v133 : BitVec 1 := Scalar.cmpi .ne v132 c0_i32_78
  v133

def k0_dev10 (d0 : Dev nD) : Nat :=
  let c0_i32_128 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_33 : BitVec 32 := 2#32
  let v69 : BitVec 32 := Scalar.addi v2 c2_i32_33
  let c15_i32_34 : BitVec 32 := 15#32
  let v70 : BitVec 32 := Scalar.minsi v69 c15_i32_34
  let c1_i32_127 : BitVec 32 := 1#32
  let v171 : BitVec 32 := Scalar.muli v70 c1_i32_127
  let v172 : BitVec 32 := Scalar.addi c0_i32_128 v171
  v172.toNat
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_90 : BitVec 32 := 4#32
  let v142 : BitVec 32 := Scalar.addi v2 c4_i32_90
  let c16_i32_91 : BitVec 32 := 16#32
  let v143 : BitVec 1 := Scalar.cmpi .slt v142 c16_i32_91
  let v144 : BitVec 32 := Scalar.extui v143
  let c0_i32_95 : BitVec 32 := 0#32
  let v145 : BitVec 1 := Scalar.cmpi .ne v144 c0_i32_95
  v145

def k0_dev11 (d0 : Dev nD) : Nat :=
  let c0_i32_128 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_35 : BitVec 32 := 4#32
  let v71 : BitVec 32 := Scalar.addi v2 c4_i32_35
  let c15_i32_36 : BitVec 32 := 15#32
  let v72 : BitVec 32 := Scalar.minsi v71 c15_i32_36
  let c1_i32_127 : BitVec 32 := 1#32
  let v171 : BitVec 32 := Scalar.muli v72 c1_i32_127
  let v172 : BitVec 32 := Scalar.addi c0_i32_128 v171
  v172.toNat
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_107 : BitVec 32 := 8#32
  let v154 : BitVec 32 := Scalar.addi v2 c8_i32_107
  let c16_i32_108 : BitVec 32 := 16#32
  let v155 : BitVec 1 := Scalar.cmpi .slt v154 c16_i32_108
  let v156 : BitVec 32 := Scalar.extui v155
  let c0_i32_111 : BitVec 32 := 0#32
  let v157 : BitVec 1 := Scalar.cmpi .ne v156 c0_i32_111
  v157

def k0_dev12 (d0 : Dev nD) : Nat :=
  let c0_i32_128 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_37 : BitVec 32 := 8#32
  let v73 : BitVec 32 := Scalar.addi v2 c8_i32_37
  let c15_i32_38 : BitVec 32 := 15#32
  let v74 : BitVec 32 := Scalar.minsi v73 c15_i32_38
  let c1_i32_127 : BitVec 32 := 1#32
  let v171 : BitVec 32 := Scalar.muli v74 c1_i32_127
  let v172 : BitVec 32 := Scalar.addi c0_i32_128 v171
  v172.toNat
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x512 : Shape := ⟨2, ![8192, 512]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S_, .f32⟩
  | .hbm, ⟨2, _⟩ => ⟨S_, .f32⟩
  | .hbm, ⟨3, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Proof.Protocol.lean ====
/-
# The protocol of the sixteen-device scan

Every device first tells each device at distance 1, 2, 4 or 8 that it has entered the kernel, on the shared barrier
semaphore, and waits for as many tellings as it has such neighbours. Then, for the distances 1, 2, 4, 8 in turn, it
sends its running row to the device that far above it (if there is one) and adds to its running row what arrives from
the device that far below it (if there is one).

This module names the devices, semaphores and buffers of that protocol, states what each semaphore unit stands for
(`sched`), what a device owes the others from the start, and the order in which the waits are ranked (`lv`).
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Ring
public import Idealize.ShloMosaic.Lib.Tactic

@[expose] public section

noncomputable section

namespace Cert.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The protocol's own copy of the rounds' algebra: its duties are pairs (step, direction). -/
abbrev Duty : Type := Fin 4 × Bool
abbrev UScan : Type := URounds (GSem nD τ sig) Duty
abbrev UBoth : Type := UR sig nD τ × UScan

local notation "𝕄" => MT nD τ sig Unit (Elt F) ℕ UBoth ℕ

abbrev ePipe : Emb (UR sig nD τ) (MT nD τ sig Unit (Elt F) ℕ UBoth ℕ) := embL
abbrev eScan : Emb UScan (MT nD τ sig Unit (Elt F) ℕ UBoth ℕ) := embR

/-! ## The devices -/

/-- The distance a step reaches: 1, 2, 4, 8. -/
abbrev dist (n : ℕ) : ℕ := 2 ^ n

set_option backward.proofsInPublic true in
/-- The device a step's distance above (around the end, where there is none). -/
def up (n : ℕ) (c : Dev nD) : Dev nD := ⟨(c.val + dist n) % 16, Nat.mod_lt _ (by decide)⟩
set_option backward.proofsInPublic true in
/-- The device a step's distance below (around the end, where there is none). -/
def dn (n : ℕ) (c : Dev nD) : Dev nD := ⟨(c.val + (16 - dist n)) % 16, Nat.mod_lt _ (by decide)⟩

/-- There is a device a step's distance below. -/
abbrev HasSrc (n : ℕ) (c : Dev nD) : Prop := dist n ≤ c.val
/-- There is a device a step's distance above. -/
abbrev HasDst (n : ℕ) (c : Dev nD) : Prop := c.val + dist n < 16

theorem dn_up : ∀ (s : Fin 4) (c : Dev nD), dn s.val (up s.val c) = c := by decide +kernel
theorem up_dn : ∀ (s : Fin 4) (c : Dev nD), up s.val (dn s.val c) = c := by decide +kernel

/-- Whether a device takes part in a duty as the one below (`false`) or above (`true`): it sends upwards at step `d.1`,
    or receives from below there. It is also whether it tells its neighbour in that direction that it has entered. -/
abbrev Own (d : Duty) (c : Dev nD) : Prop := if d.2 then HasSrc d.1.val c else HasDst d.1.val c

/-- Whom a device tells for duty `d`: the device below it when it will receive, the device above it when it will send. -/
abbrev told (d : Duty) (c : Dev nD) : Dev nD := if d.2 then dn d.1.val c else up d.1.val c
/-- By whom a device is told for duty `d`. -/
abbrev teller (d : Duty) (c : Dev nD) : Dev nD := if d.2 then up d.1.val c else dn d.1.val c

theorem teller_told (d : Duty) (c : Dev nD) : teller d (told d c) = c := by
  obtain ⟨s, b⟩ := d; cases b
  · exact dn_up s c
  · exact up_dn s c
theorem told_teller (d : Duty) (c : Dev nD) : told d (teller d c) = c := by
  obtain ⟨s, b⟩ := d; cases b
  · exact up_dn s c
  · exact dn_up s c

/-- Going up is one-to-one and onto. -/
def upEquiv (s : Fin 4) : Dev nD ≃ Dev nD := ⟨up s.val, dn s.val, dn_up s, up_dn s⟩

/-- The number of a device's neighbours: how many tellings it waits for. -/
def neighbours (c : Dev nD) : ℕ := (Finset.univ.filter fun d : Duty => Own d (teller d c)).card

/-- The word the kernel waits with is that number. -/
theorem amt_eq : ∀ c : Dev nD, (k0_amt1 c).toInt = (neighbours c : ℤ) := by decide +kernel

theorem has_told : ∀ (s : Fin 4) (c : Dev nD), (HasDst s.val c → HasSrc s.val (up s.val c)) ∧ (HasSrc s.val c → HasDst s.val (dn s.val c)) := by
  decide +kernel
theorem has_teller : ∀ (s : Fin 4) (c : Dev nD), (HasDst s.val (dn s.val c) ↔ HasSrc s.val c) ∧ (HasSrc s.val (up s.val c) ↔ HasDst s.val c) := by
  decide +kernel

/-! ## The buffers and semaphores -/

abbrev xM : Memref sig .tc .vmem S512x512 .f32 := Memref.whole cc0_stg0_0
abbrev oM : Memref sig .tc .vmem S512x512 .f32 := Memref.whole cc0_stg1_0
/-- The running row. -/
abbrev runM : Memref sig .tc .vmem S1x512 .f32 := Memref.whole cc0_scratch0
/-- The four landing rows, one per step. -/
abbrev inM : Memref sig .tc .vmem S4x1x512 .f32 := Memref.whole cc0_scratch1

theorem inb_row : ∀ (s : Fin 4) (a : Fin 3), (![s.val, 0, 0] : Fin 3 → Nat) a + S1x1x512.size a ≤ S4x1x512.size a := by decide
theorem inb_sem : ∀ (s : Fin 4) (a : Fin 1), (![s.val] : Fin 1 → Nat) a + S1.size a ≤ S4.size a := by decide

/-- A step's landing row, as the rectangle it is in the four; -/
abbrev rowR (s : Fin 4) : Rect S4x1x512 := Rect.unit (s := S4x1x512) ![s.val, 0, 0] S1x1x512.size (inb_row s)
/-- and as a row. -/
abbrev rowM (s : Fin 4) : Memref sig .tc .vmem S1x512 .f32 := (inM.slice (rowR s) (fun _ => rfl)).squeeze S1x512 squeezes_S1x1x512_S1x512

/-- The runtime's barrier semaphore, a step's send semaphore and a step's receive semaphore. -/
abbrev barS : Sem sig := (SemArray.scalar (sig.barrier 0 rfl) : Sems sig S_).sem
abbrev sendS (s : Fin 4) : DmaSem sig := ((cc0_scratch2.slice (Rect.unit (s := S4) ![s.val] S1.size (inb_sem s))).squeeze S_ squeezes_S1_S_).sem
abbrev recvS (s : Fin 4) : DmaSem sig := ((cc0_scratch3.slice (Rect.unit (s := S4) ![s.val] S1.size (inb_sem s))).squeeze S_ squeezes_S1_S_).sem

/-- The transfer semaphore of a duty: `false` the send one, `true` the receive one. -/
abbrev dsem (d : Duty) : SemLoc sig := match d.2 with
  | false => .dma (sendS d.1)
  | true => .dma (recvS d.1)

theorem dsem_inj : Function.Injective dsem := by decide +kernel
theorem dsem_ne_bar (d : Duty) : dsem d ≠ .reg barS := by obtain ⟨s, b⟩ := d; cases b <;> exact fun h => by cases h

/-- All nine of a device's semaphores. -/
abbrev csem : Unit ⊕ Duty → SemLoc sig
  | .inl _ => .reg barS
  | .inr d => dsem d

theorem csem_inj : Function.Injective csem := by
  rintro (_ | d) (_ | d') h
  · rfl
  · exact absurd h.symm (dsem_ne_bar d')
  · exact absurd h (dsem_ne_bar d)
  · exact congrArg Sum.inr (dsem_inj h)

abbrev barCell (c : Dev nD) : GSem nD τ sig := ((c : Thread nD τ), .reg barS)
abbrev dCell (d : Duty) (c : Dev nD) : GSem nD τ sig := ((c : Thread nD τ), dsem d)
abbrev kcell (ck : Dev nD × (Unit ⊕ Duty)) : GSem nD τ sig := ((ck.1 : Thread nD τ), csem ck.2)

/-- What one row's transfer counts for. -/
abbrev credit : ℕ := runM.view.dmaCredit
theorem credit_pos : 0 < credit := View.dmaCredit_pos _ (by decide)
theorem credit_row (s : Fin 4) : (rowM s).view.dmaCredit = credit := rfl

/-! ## The contents -/

/-- A device's block of the input, as its staging buffer holds it. -/
abbrev Blocks (F : FTy → Type) : Type := Dev nD → Vec F S512x512 .f32

/-- Adding an arrived row to the running row. -/
def acc (a b : Vec F S1x512 .f32) : FVec F S1x512 .f32 := shapeCast S1x512 (addf a b) shapeCasts_S1x512_S1x512

/-- The running row of device `c` before step `n`: the column sums of its block, then step by step the row of the device
    below added, where there is one. -/
def runV (x : Blocks F) : ℕ → Dev nD → FVec F S1x512 .f32
  | 0, c => k0_pay4 (x c)
  | n + 1, c => if HasSrc n c then acc (runV x n c) (runV x n (dn n c)) else runV x n c

variable (x : Blocks F)

/-- The running row held at contents `f`. -/
def runPts (c : Dev nD) (f : Vec F S1x512 .f32) : sProp 𝕄 :=
  runM.view.loc (c : Thread nD τ) ↦[runM.view.set]{fullShare} f
/-- A step's landing row held at contents `f` of the four rows' buffer. -/
def rowPts (s : Fin 4) (c : Dev nD) (f : Buf (Elt F) ((rowM s).view.loc (c : Thread nD τ))) : sProp 𝕄 :=
  (rowM s).view.loc (c : Thread nD τ) ↦[(rowM s).view.set]{fullShare} f
/-- A step's landing row at some contents; -/
def rowFree (s : Fin 4) (c : Dev nD) : sProp 𝕄 := iprop(∃ f, rowPts s c f)
/-- and at contents that read as `w`. -/
def rowAt (s : Fin 4) (c : Dev nD) (w : Vec F S1x512 .f32) : sProp 𝕄 :=
  iprop(∃ f, ⌜(rowM s).view.read (Elt F) f = w⌝ ∗ rowPts s c f)

omit [FloatOps F] in
instance runPts_storable (c : Dev nD) (f) : BI.Storable (upEmb : UEmb _ 𝕄) (runPts (F := F) c f) := by unfold runPts; infer_instance
omit [FloatOps F] in
instance rowPts_storable (s : Fin 4) (c : Dev nD) (f) : BI.Storable (upEmb : UEmb _ 𝕄) (rowPts (F := F) s c f) := by unfold rowPts; infer_instance
omit [FloatOps F] in
instance rowFree_storable (s : Fin 4) (c : Dev nD) : BI.Storable (upEmb : UEmb _ 𝕄) (rowFree (F := F) s c) := by unfold rowFree; infer_instance
omit [FloatOps F] in
instance rowAt_storable (s : Fin 4) (c : Dev nD) (w) : BI.Storable (upEmb : UEmb _ 𝕄) (rowAt (F := F) s c w) := by unfold rowAt; infer_instance

/-! ## The schedule -/

/-- What a barrier unit of duty `d` brings device `c`: from the device above it, that device's landing row of the step. -/
def barPay (d : Duty) (c : Dev nD) : sProp 𝕄 := if d.2 then rowFree d.1 (up d.1.val c) else iprop(emp)
/-- What a finished transfer brings device `c`: a receive, its landing row at the running row of the device below; a send,
    its own running row back. -/
def xferPay (d : Duty) (c : Dev nD) : sProp 𝕄 :=
  if d.2 then rowAt d.1 c (runV x d.1.val (dn d.1.val c)) else runPts c (runV x d.1.val c)

/-- The duties on a semaphore of device `c`. -/
def dutiesOn (c : Dev nD) (sm : SemLoc sig) : Finset Duty :=
  if sm = .reg barS then Finset.univ.filter fun d => Own d (teller d c) else Finset.univ.filter fun d => sm = dsem d ∧ Own d c

/-- One round: a barrier semaphore has a unit duty for each neighbour; a transfer semaphore has one duty of a row's credit
    if its device takes part in the step, and none otherwise. -/
def sched : Rounds.Schedule (GSem nD τ sig) Duty 𝕄 where
  duties g r := if r = 0 ∧ g.1.2 = .tc then dutiesOn g.1.1 g.2 else ∅
  unitless _ := False
  amount g _ _ := if g.2 = .reg barS then 1 else credit
  payload g _ d := if g.2 = .reg barS then barPay d g.1.1 else xferPay x d g.1.1
  amount_pos g _ _ _ := by
    by_cases h : g.2 = .reg barS
    · rw [if_pos h]; exact Nat.one_pos
    · rw [if_neg h]; exact credit_pos

instance sched_payload_storable (g : GSem nD τ sig) (r : ℕ) (d : Duty) :
    BI.Storable (upEmb : UEmb _ 𝕄) ((sched (F := F) x).payload g r d) := by
  show BI.Storable upEmb (if g.2 = .reg barS then barPay d g.1.1 else xferPay x d g.1.1)
  unfold barPay xferPay
  (repeat' split) <;> infer_instance

section Sched
variable (c : Dev nD) (d : Duty)

theorem duties_bar : (sched x).duties (barCell c) 0 = Finset.univ.filter fun d => Own d (teller d c) := by
  dsimp only [sched]; rw [if_pos ⟨rfl, rfl⟩]; exact if_pos rfl
theorem duties_xfer : (sched x).duties (dCell d c) 0 = if Own d c then {d} else ∅ := by
  dsimp only [sched]; rw [if_pos ⟨rfl, rfl⟩]; unfold dutiesOn; rw [if_neg (dsem_ne_bar d)]
  ext d'
  rw [Finset.mem_filter]
  constructor
  · rintro ⟨-, h1, h2⟩; have := dsem_inj h1; subst this; rw [if_pos h2]; exact Finset.mem_singleton_self _
  · intro h
    by_cases ho : Own d c
    · rw [if_pos ho] at h; have := Finset.mem_singleton.mp h; subst this; exact ⟨Finset.mem_univ _, rfl, ho⟩
    · rw [if_neg ho] at h; exact absurd h (Finset.notMem_empty _)
theorem duties_later (g : GSem nD τ sig) : ∀ r, 1 ≤ r → (sched x).duties g r = ∅ :=
  fun r hr => by dsimp only [sched]; rw [if_neg fun h => by omega]
theorem duties_idle (h : ¬ Own d c) : ∀ r, 0 ≤ r → (sched x).duties (dCell d c) r = ∅ := fun r _ => by
  rcases Nat.eq_zero_or_pos r with rfl | hr
  · rw [duties_xfer, if_neg h]
  · exact duties_later x _ r hr

theorem amount_bar : (sched x).amount (barCell c) 0 d = 1 := by dsimp only [sched]; exact if_pos rfl
theorem amount_xfer : (sched x).amount (dCell d c) 0 d = credit := by dsimp only [sched]; exact if_neg (dsem_ne_bar d)

theorem expect_bar : (sched x).expect (barCell c) 0 = neighbours c := by
  unfold Schedule.expect Schedule.amountOf
  rw [duties_bar, Finset.sum_congr rfl fun d _ => amount_bar x c d, Finset.sum_const, smul_eq_mul, mul_one]; rfl
theorem expect_xfer (h : Own d c) : (sched x).expect (dCell d c) 0 = credit := by
  unfold Schedule.expect Schedule.amountOf; rw [duties_xfer, if_pos h, Finset.sum_singleton, amount_xfer]

theorem payload_bar : (sched x).payload (barCell c) 0 d = barPay d c := by dsimp only [sched]; exact if_pos rfl
theorem payload_xfer : (sched x).payload (dCell d c) 0 d = xferPay x d c := by dsimp only [sched]; exact if_neg (dsem_ne_bar d)

/-- All the barrier brings a device: the landing rows of those it will send to. -/
def lent (s : Fin 4) (c : Dev nD) : sProp 𝕄 := if HasDst s.val c then rowFree (F := F) s (up s.val c) else iprop(emp)

theorem bigSep_duty (Φ : Duty → sProp 𝕄) :
    bigSep Finset.univ Φ = bigSep Finset.univ fun s : Fin 4 => iprop(Φ (s, false) ∗ Φ (s, true)) := by
  rw [bigSep_univ_prod]
  exact bigSep_congr fun s _ => bigSep_univ_eq_bigSepL [false, true] (by decide) (by decide) _

theorem rest_bar : bigSep ((sched x).duties (barCell c) 0 \ ∅) (fun d => (sched x).payload (barCell c) 0 d)
    ⊢ bigSep Finset.univ fun s : Fin 4 => lent s c := by
  rw [Finset.sdiff_empty, duties_bar, bigSep_congr fun d _ => payload_bar x c d, bigSep_filter, bigSep_duty]
  refine bigSep_mono fun s _ => ?_
  show iprop((if Own (s, false) (teller (s, false) c) then barPay (s, false) c else iprop(emp)) ∗
    (if Own (s, true) (teller (s, true) c) then barPay (s, true) c else iprop(emp))) ⊢ lent s c
  unfold lent
  by_cases h : HasDst s.val c
  · rw [if_pos h, if_pos (show Own (s, true) (teller (s, true) c) from (has_teller s c).2.mpr h)]
    show iprop(_ ∗ rowFree s (up s.val c)) ⊢ _
    iintro ⟨-, H⟩; iexact H
  · rw [if_neg h]; iintro -; iempintro
theorem rest_xfer (h : Own d c) : bigSep ((sched x).duties (dCell d c) 0 \ ∅) (fun d' => (sched x).payload (dCell d c) 0 d') = xferPay x d c := by
  rw [Finset.sdiff_empty, duties_xfer, if_pos h, bigSep_singleton, payload_xfer]

end Sched

/-! ## What a device owes from the start, and the ranking of the waits -/

/-- The unit a device owes a neighbour's barrier, if it has that neighbour. -/
def tBar (d : Duty) (c : Dev nD) : CellTallies nD τ sig Unit := if Own d c then tallyAt (barCell (told d c)) () 1 else 0
/-- The row's credit a device owes the receive semaphore of the device it sends to, if there is one. -/
def tRow (s : Fin 4) (c : Dev nD) : CellTallies nD τ sig Unit :=
  if HasDst s.val c then tallyAt (dCell (s, true) (up s.val c)) () credit else 0

/-- What is still owed of the rows before step 3, 2, 1, 0; -/
def oRow3 (c : Dev nD) : CellTallies nD τ sig Unit := 0 + tRow 3 c
def oRow2 (c : Dev nD) : CellTallies nD τ sig Unit := oRow3 c + tRow 2 c
def oRow1 (c : Dev nD) : CellTallies nD τ sig Unit := oRow2 c + tRow 1 c
def oRow0 (c : Dev nD) : CellTallies nD τ sig Unit := oRow1 c + tRow 0 c
/-- and of everything before the tellings of distance 8, 4, 2, 1. -/
def oBar3 (c : Dev nD) : CellTallies nD τ sig Unit := oRow0 c + tBar (3, false) c + tBar (3, true) c
def oBar2 (c : Dev nD) : CellTallies nD τ sig Unit := oBar3 c + tBar (2, false) c + tBar (2, true) c
def oBar1 (c : Dev nD) : CellTallies nD τ sig Unit := oBar2 c + tBar (1, false) c + tBar (1, true) c
/-- All a device owes at launch. -/
def owed₀ (c : Dev nD) : CellTallies nD τ sig Unit := oBar1 c + tBar (0, false) c + tBar (0, true) c

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The rank of a semaphore: staging and send semaphores first, then the barrier, then the receives, step by step. -/
def rank : SemLoc sig → ℕ
  | .reg _ => 1
  | .dma q => if 6 ≤ q.val then q.val - 4 else 0
def lv (g : GSem nD τ sig) (_ : Unit) : ℕ := rank g.2

theorem rank_send : ∀ s : Fin 4, rank (dsem (s, false)) = 0 := by decide +kernel
theorem rank_recv : ∀ s : Fin 4, rank (dsem (s, true)) = s.val + 2 := by decide +kernel

/-- Everything in `O` is owed to ranks above `n`. -/
def Above (n : ℕ) (O : CellTallies nD τ sig Unit) : Prop := ∀ g u, 0 < O g u → g.1.2 = .tc ∧ n < lv g u

theorem Above.zero (n : ℕ) : Above n 0 := fun g u h => absurd h (by rw [Pi.zero_apply, Finsupp.zero_apply]; exact Nat.lt_irrefl 0)
theorem Above.add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem Above.weaken {n n' : ℕ} (h : n ≤ n') {O : CellTallies nD τ sig Unit} (hO : Above n' O) : Above n O :=
  fun g u hg => ⟨(hO g u hg).1, Nat.lt_of_le_of_lt h (hO g u hg).2⟩
theorem Above.tally {n k : ℕ} {c : Dev nD} {sm : SemLoc sig} (h : n < rank sm) : Above n (tallyAt ((c : Thread nD τ), sm) () k) := fun g u hg => by
  rw [tallyAt_apply] at hg
  by_cases he : g = ((c : Thread nD τ), sm) ∧ u = ()
  · rw [he.1]; exact ⟨rfl, h⟩
  · rw [if_neg he] at hg; exact absurd hg (Nat.lt_irrefl 0)
theorem Above.row {n : ℕ} (s : Fin 4) (c : Dev nD) (h : n < s.val + 2) : Above n (tRow s c) := by
  unfold tRow; split
  · exact Above.tally (by rw [rank_recv]; exact h)
  · exact Above.zero n
theorem Above.bar (d : Duty) (c : Dev nD) : Above 0 (tBar d c) := by
  unfold tBar; split
  · exact Above.tally Nat.one_pos
  · exact Above.zero 0

theorem above_row3 (c : Dev nD) : Above 4 (oRow3 c) := (Above.zero 4).add (Above.row 3 c (by decide))
theorem above_row2 (c : Dev nD) : Above 3 (oRow2 c) := ((Above.zero 3).add (Above.row 3 c (by decide))).add (Above.row 2 c (by decide))
theorem above_row1 (c : Dev nD) : Above 2 (oRow1 c) :=
  (((Above.zero 2).add (Above.row 3 c (by decide))).add (Above.row 2 c (by decide))).add (Above.row 1 c (by decide))
theorem above_row0 (n : ℕ) (hn : n < 2) (c : Dev nD) : Above n (oRow0 c) :=
  ((((Above.zero n).add (Above.row 3 c (by omega))).add (Above.row 2 c (by omega))).add (Above.row 1 c (by omega))).add (Above.row 0 c hn)
theorem above_owed₀ (c : Dev nD) : Above 0 (owed₀ c) :=
  ((((((((above_row0 0 (by decide) c).add (Above.bar _ c)).add (Above.bar _ c)).add (Above.bar _ c)).add (Above.bar _ c)).add (Above.bar _ c)).add (Above.bar _ c)).add
    (Above.bar _ c)).add (Above.bar _ c)

/-- A device may wait on a semaphore of rank `n` while all it owes is of higher rank. -/
theorem mayWait {c : Dev nD} {sm : SemLoc sig} {n : ℕ} (hs : rank sm ≤ n) {O : CellTallies nD τ sig Unit} (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs)
    (fun g u hg => (hO g u hg).2)

end Cert.Scan

end
-- ==== Proof.Steps.lean ====
/-
# The operations of the scan, one rule each

Each rule below covers one conditional operation of the kernel — a telling, a send, a wait for an arrived row, a wait for
a finished send, an addition — for every step and every device at once, both when the device takes part and when it does
not. The body proof then only strings them together.
-/
module

public import proofs.«01_k».proof.Proof.Protocol

@[expose] public section

set_option maxRecDepth 20000

noncomputable section

namespace Cert.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UBoth ℕ

abbrev noVar : Variants := Variants.none

/-- What remains to be shown of a program run by device `c`. -/
abbrev Goal (c : Dev nD) {α : Type} (e : Prog (TpuEff nD τ sig (Elt F) Λ₀ .tc) α) (Q : α → sProp 𝕄) : sProp 𝕄 :=
  wp frame (wpE (defs₀ (F := F)) noVar (c : Thread nD τ) none) Set.univ e Q

variable (x : Blocks F) (K : Dev nD × (Unit ⊕ Duty) → ℕ)

/-- One semaphore's record: its invariant, and that it is at its first round. -/
def record (ck : Dev nD × (Unit ⊕ Duty)) : sProp 𝕄 :=
  iprop(cellInv eScan (sched x) (K ck) (kcell ck) ∗ reached eScan (kcell ck) 0)
instance record_persistent (ck) : BI.Persistent (record (F := F) x K ck) := by unfold record; infer_instance

/-- What every device knows throughout: all records, and the ranks. -/
def known : sProp 𝕄 := iprop((bigSep Finset.univ fun ck => record x K ck) ∗ levAts L lv)
instance known_persistent : BI.Persistent (known (F := F) x K) := by unfold known; infer_instance

theorem known_inv (ck : Dev nD × (Unit ⊕ Duty)) : known x K ⊢ cellInv eScan (sched x) (K ck) (kcell ck) := by
  unfold known
  iintro ⟨H, -⟩
  have e : (bigSep Finset.univ fun ck => record x K ck) ⊢ record x K ck := bigSep_elim (Finset.mem_univ ck)
  ihave H' := e $$ H
  unfold record
  icases H' with ⟨H, -⟩; iexact H
theorem known_reached (ck : Dev nD × (Unit ⊕ Duty)) : known x K ⊢ reached eScan (kcell ck) 0 := by
  unfold known
  iintro ⟨H, -⟩
  have e : (bigSep Finset.univ fun ck => record x K ck) ⊢ record x K ck := bigSep_elim (Finset.mem_univ ck)
  ihave H' := e $$ H
  unfold record
  icases H' with ⟨-, H⟩; iexact H
theorem known_lev : known x K ⊢ (levAts L lv : sProp 𝕄) := by
  unfold known
  iintro ⟨-, H⟩; iexact H

theorem known_mayWait {c : Dev nD} {sm : SemLoc sig} {n : ℕ} (hs : rank sm ≤ n) {O : CellTallies nD τ sig Unit} (hO : Above n O) :
    known x K ⊢ MayWait (c : Thread nD τ) sm () O := (known_lev x K).trans (mayWait (F := F) (c := c) (sm := sm) (n := n) hs hO)

/-- What device `c` still owes. -/
def owe (c : Dev nD) (O : CellTallies nD τ sig Unit) : sProp 𝕄 := iprop(∃ W, owes (c : Thread nD τ) O W)

variable (c : Dev nD)

/-- A program that has returned. -/
theorem wp_returned {α : Type} {Q : α → sProp 𝕄} (a : α) : Q a ⊢ Goal c (.ret a) Q := by
  iintro H
  unfold Goal
  rw [wp_ret]; imodintro
  iexact H

/-! ## Telling a neighbour -/

/-- The telling of duty `d`: whoever has that neighbour pays it its barrier unit, handing over `R` but for `R'`. -/
theorem wp_tell {α : Type} {Q : α → sProp 𝕄} (d : Duty) {P : Prop} [Decidable P] (hP : P ↔ Own d c) {e : P → Dev nD} (he : ∀ h, e h = told d c)
    {k : Prog (TpuEff nD τ sig (Elt F) Λ₀ .tc) α}
    {R R' : sProp 𝕄} (hR : Own d c → R ⊢ iprop(barPay d (told d c) ∗ R')) (hR' : ¬ Own d c → R ⊢ R') (O : CellTallies nD τ sig Unit) :
    iprop(known x K ∗ owe c (O + tBar d c) ∗ dutyTok eScan (barCell (told d c)) 0 d ∗ R ∗ ((owe c O ∗ R') -∗ Goal c k Q))
      ⊢ Goal c (dite P (fun h => .op (.semSignal (e h : Thread nD τ) barS ((1 : ℕ) : ℤ)) fun _ => k) fun _ => k) Q := by
  by_cases h : P
  · have ho := hP.mp h
    rw [dif_pos h, he h]
    unfold owe tBar
    rw [if_pos ho]
    iintro ⟨#Hk, ⟨%W, HO⟩, Ht, HR, Hc⟩
    ihave HR2 := (hR ho) $$ HR
    icases HR2 with ⟨Hpay, HR'⟩
    iapply (Rounds.wp_signal noVar eScan (sched x) (c : Thread nD τ) none (dst := (told d c : Thread nD τ)) (κ := K (told d c, .inl ()))
        (d := d) (by rw [duties_bar]; exact Finset.mem_filter.mpr ⟨Finset.mem_univ _, by rw [teller_told]; exact ho⟩)
        (amount_bar x (told d c) d) () O rfl) $$ [HO Ht Hpay]
    · isplitr; · iapply (known_inv x K (told d c, .inl ())); iexact Hk
      isplitl [HO]; · iexact HO
      isplitl [Ht]; · iexact Ht
      isplitl [Hpay]; · rw [payload_bar]; iexact Hpay
      iapply (known_reached x K (told d c, .inl ())); iexact Hk
    iintro HO
    iapply Hc
    isplitl [HO]
    · iexists W; iexact HO
    iexact HR'
  · have ho : ¬ Own d c := fun h' => h (hP.mpr h')
    rw [dif_neg h]
    unfold tBar
    rw [if_neg ho, add_zero]
    iintro ⟨-, HO, -, HR, Hc⟩
    iapply Hc
    isplitl [HO]; · iexact HO
    iapply (hR' ho); iexact HR

/-- A step's landing row, unless the device has lent it to the one below. -/
def kept (s : Fin 4) (c : Dev nD) : sProp 𝕄 := if HasSrc s.val c then iprop(emp) else rowFree (F := F) s c

/-- Telling the device below, lending it the step's landing row. -/
theorem wp_tell_below {α : Type} {Q : α → sProp 𝕄} (s : Fin 4) {P : Prop} [Decidable P] (hP : P ↔ HasSrc s.val c) {e : P → Dev nD} (he : ∀ h, e h = dn s.val c)
    {k : Prog (TpuEff nD τ sig (Elt F) Λ₀ .tc) α} (O : CellTallies nD τ sig Unit) :
    iprop(known x K ∗ owe c (O + tBar (s, true) c) ∗ dutyTok eScan (barCell (dn s.val c)) 0 (s, true) ∗ rowFree s c
        ∗ ((owe c O ∗ kept s c) -∗ Goal c k Q))
      ⊢ Goal c (dite P (fun h => .op (.semSignal (e h : Thread nD τ) barS ((1 : ℕ) : ℤ)) fun _ => k) fun _ => k) Q :=
  wp_tell x K c (s, true) hP he (R := rowFree s c) (R' := kept s c)
    (fun h => by
      unfold kept; rw [if_pos (show HasSrc s.val c from h)]
      show _ ⊢ iprop(rowFree s (up s.val (dn s.val c)) ∗ emp)
      rw [up_dn]
      iintro H; isplitl [H]; · iexact H
      iempintro)
    (fun h => by unfold kept; rw [if_neg (show ¬ HasSrc s.val c from h)]) O

/-- Telling the device above. -/
theorem wp_tell_above {α : Type} {Q : α → sProp 𝕄} (s : Fin 4) {P : Prop} [Decidable P] (hP : P ↔ HasDst s.val c) {e : P → Dev nD} (he : ∀ h, e h = up s.val c)
    {k : Prog (TpuEff nD τ sig (Elt F) Λ₀ .tc) α} (O : CellTallies nD τ sig Unit) :
    iprop(known x K ∗ owe c (O + tBar (s, false) c) ∗ dutyTok eScan (barCell (up s.val c)) 0 (s, false) ∗ (owe c O -∗ Goal c k Q))
      ⊢ Goal c (dite P (fun h => .op (.semSignal (e h : Thread nD τ) barS ((1 : ℕ) : ℤ)) fun _ => k) fun _ => k) Q := by
  iintro ⟨#Hk, HO, Ht, Hc⟩
  iapply (wp_tell x K c (s, false) hP he (R := iprop(emp)) (R' := iprop(emp))
    (fun h => by
      show _ ⊢ iprop(emp ∗ emp)
      iintro -; isplitl <;> iempintro)
    (fun h => BI.Entails.refl _) O)
  isplitr; · iexact Hk
  isplitl [HO]; · iexact HO
  isplitl [Ht]; · iexact Ht
  isplitr; · iempintro
  iintro ⟨HO, -⟩
  iapply Hc; iexact HO

/-! ## Waiting for the neighbours -/

/-- The wait for all tellings: it brings the landing rows of the devices this one will send to, and the barrier semaphore
    is finished with. -/
theorem wp_entered {α : Type} {Q : α → sProp 𝕄} (n : ℕ) (hn : n = neighbours c) {k : Prog (TpuEff nD τ sig (Elt F) Λ₀ .tc) α} (O : CellTallies nD τ sig Unit) (hO : Above 1 O) :
    iprop(known x K ∗ owe c O ∗ atPos eScan (barCell c) 0 ∅ 0 ∗ cred (tallyAt (barCell c) () (neighbours c))
        ∗ ((owe c O ∗ semVal (barCell c) 0 ∗ bigSep Finset.univ fun s : Fin 4 => lent s c) -∗ Goal c k Q))
      ⊢ Goal c (.op (.semWait barS n) fun _ => k) Q := by
  subst hn
  unfold owe
  iintro ⟨#Hk, ⟨%W, HO⟩, Hat, Hcr, Hc⟩
  iapply (Rounds.wp_wait_rest_token noVar eScan (sched x) (c : Thread nD τ) none (κ := K (c, .inl ()))
      (wpE_semWait_eq noVar (c : Thread nD τ) none Set.univ) (Set.mem_univ _) () (O := O) (W := W) (R := 0) (m := 0) (T := ∅)
      (by rw [Nat.zero_add, expect_bar])) $$ [Hcr HO Hat]
  · isplitr; · iapply (known_inv x K (c, .inl ())); iexact Hk
    isplitl [Hcr]; · iexact Hcr
    isplitl [HO]; · iexact HO
    isplitr; · iapply (known_mayWait x K (c := c) (sm := .reg barS) (n := 1) (Nat.le_refl 1) hO); iexact Hk
    iexact Hat
  iintro ⟨HO, Hat, -, Hpay⟩
  ihave Hl := (rest_bar x c) $$ Hpay
  imod (Rounds.cell_close eScan (sched x) (Set.mem_univ (K (c, .inl ()))) (fun h => h) (R := 0 + 1) (duties_later x (barCell c))) $$ [Hat] with Hz
  · isplitr; · iapply (known_inv x K (c, .inl ())); iexact Hk
    iexact Hat
  iapply Hc
  isplitl [HO]; · iexists _; iexact HO
  isplitl [Hz]; · iexact Hz
  iexact Hl

/-! ## Sending the running row up -/

/-- The running row while its send may be under way: the send's credit in exchange for it, or the row itself where
    nothing is sent. -/
def inFlight (s : Fin 4) (c : Dev nD) : sProp 𝕄 :=
  if HasDst s.val c then cred (tallyAt (dCell (s, false) c) () credit) else runPts c (runV x s.val c)

/-- The send of step `s`: the running row goes into the landing row lent by the device above. -/
theorem wp_pass {α : Type} {Q : α → sProp 𝕄} (s : Fin 4) {P : Prop} [Decidable P] (hP : P ↔ HasDst s.val c) {e : P → Dev nD} (he : ∀ h, e h = up s.val c)
    {k : Prog (TpuEff nD τ sig (Elt F) Λ₀ .tc) α}
    {hsc : ∀ h, (rowM s : Memref sig (Dev.tc (e h) : Thread nD τ).2.kind .vmem S1x512 .f32).view.ref.isScScratch = false}
    {hsrc : P → (runM : Memref sig .tc .vmem S1x512 .f32).view.WordExact} {hdst : P → (rowM s : Memref sig .tc .vmem S1x512 .f32).view.WordExact}
    {hsem : ∀ h, DmaTarget.Typed .vmem (.dma (recvS s)) (.remote (Dev.tc (e h) : Thread nD τ) (rowM s : Memref sig .tc .vmem S1x512 .f32) (.dma (sendS s)) (hsc h))}
    (O : CellTallies nD τ sig Unit) :
    iprop(known x K ∗ owe c (O + tRow s c) ∗ lent s c ∗ runPts c (runV x s.val c)
        ∗ dutyTok eScan (dCell (s, false) c) 0 (s, false) ∗ dutyTok eScan (dCell (s, true) (up s.val c)) 0 (s, true)
        ∗ ((owe c O ∗ inFlight x s c) -∗ Goal c k Q))
      ⊢ Goal c (dite P (fun h => .op (.enqueueDma runM (.remote (Dev.tc (e h) : Thread nD τ) (rowM s) (.dma (sendS s)) (hsc h)) (.dma (recvS s)) (hsrc h) (hdst h) (hsem h))
          fun _ => k) fun _ => k) Q := by
  by_cases h : P
  · have ho := hP.mp h
    rw [dif_pos h]
    have hh := he h
    generalize hsc h = hsc, hsrc h = hsrc, hdst h = hdst, hsem h = hsem
    clear he
    generalize e h = e' at hh hsc hsem
    subst hh
    unfold owe tRow lent inFlight
    rw [if_pos ho, if_pos ho, if_pos ho]
    unfold rowFree rowPts runPts
    iintro ⟨#Hk, ⟨%W, HO⟩, ⟨%fd, Hd⟩, Hs, Ht, Ht', Hc⟩
    iapply (Rounds.wp_send_pointsTo noVar eScan (sched x) (c : Thread nD τ) none (κ₁ := K (c, .inr (s, false))) (κ₂ := K (up s.val c, .inr (s, true)))
        (c' := (up s.val c : Thread nD τ)) (src := runM) (dst := rowM s) (sS := .dma (sendS s)) (sem := .dma (recvS s))
        (r₁ := 0) (r₂ := 0) (d₁ := (s, false)) (d₂ := (s, true)) (fs := runV x s.val c) (fd := fd) (q := fullShare)
        (by rw [show (((c : Thread nD τ), SemLoc.dma (sendS s)) : GSem nD τ sig) = dCell (s, false) c from rfl, duties_xfer, if_pos (show Own (s, false) c from ho)]
            exact Finset.mem_singleton_self _)
        (by rw [show (((up s.val c : Thread nD τ), SemLoc.dma (recvS s)) : GSem nD τ sig) = dCell (s, true) (up s.val c) from rfl, duties_xfer,
              if_pos (show Own (s, true) (up s.val c) from (has_told s c).1 ho)]
            exact Finset.mem_singleton_self _)
        () () credit rfl (amount_xfer x c (s, false)) (amount_xfer x (up s.val c) (s, true)) O rfl (W := W)
        (by rw [show (((c : Thread nD τ), SemLoc.dma (sendS s)) : GSem nD τ sig) = dCell (s, false) c from rfl, payload_xfer]
            exact BI.Entails.refl _)
        (by rw [show (((up s.val c : Thread nD τ), SemLoc.dma (recvS s)) : GSem nD τ sig) = dCell (s, true) (up s.val c) from rfl, payload_xfer]
            show _ ⊢ rowAt s (up s.val c) (runV x s.val (dn s.val (up s.val c)))
            rw [dn_up]
            unfold rowAt rowPts
            iintro H
            iexists ((rowM s).view.write (Elt F) fd (runV x s.val c) Finset.univ)
            isplitr
            · ipureintro; exact View.read_write_univ (v := (rowM s).view) (Val := Elt F) fd (runV x s.val c)
            iexact H)) $$ [HO Hd Hs Ht Ht']
    · isplitr; · iapply (known_inv x K (c, .inr (s, false))); iexact Hk
      isplitr; · iapply (known_inv x K (up s.val c, .inr (s, true))); iexact Hk
      isplitl [Hs]; · iexact Hs
      isplitl [Hd]; · iexact Hd
      isplitl [HO]; · iexact HO
      isplitl [Ht]; · iexact Ht
      isplitr; · iapply (known_reached x K (c, .inr (s, false))); iexact Hk
      isplitl [Ht']; · iexact Ht'
      iapply (known_reached x K (up s.val c, .inr (s, true))); iexact Hk
    iintro ⟨Hcr, HO⟩
    iapply Hc
    isplitl [HO]; · iexists W; iexact HO
    iexact Hcr
  · have ho : ¬ HasDst s.val c := fun h' => h (hP.mpr h')
    rw [dif_neg h]
    unfold tRow inFlight
    rw [if_neg ho, if_neg ho, add_zero]
    iintro ⟨-, HO, -, Hs, -, -, Hc⟩
    iapply Hc
    isplitl [HO]; · iexact HO
    iexact Hs

/-! ## Waiting for the row from below, and for one's own send -/

/-- The wait on a transfer semaphore a device takes part in brings its transfer's payload; either way the semaphore is
    finished with. -/
theorem wp_xfer {α : Type} {Q : α → sProp 𝕄} (d : Duty) {P : Prop} [Decidable P] (hP : P ↔ Own d c) {t : P → Prog (TpuEff nD τ sig (Elt F) Λ₀ .tc) α}
    {k : Prog (TpuEff nD τ sig (Elt F) Λ₀ .tc) α}
    (ht : ∀ h, ∃ w : TpuEff nD τ sig (Elt F) Λ₀ .tc PUnit,
      (∀ R : PUnit → sProp 𝕄, wpE (defs₀ (F := F)) noVar (c : Thread nD τ) none Set.univ w R = waitSpec (c : Thread nD τ) Set.univ (dsem d) credit R)
        ∧ t h = .op w fun _ => k)
    {R R' : sProp 𝕄} (hR : Own d c → R ⊢ cred (tallyAt (dCell d c) () credit)) (hR₁ : xferPay x d c ⊢ iprop(⌜Own d c⌝ -∗ R'))
    (hR₂ : ¬ Own d c → R ⊢ R') (n : ℕ) (hn : rank (dsem d) ≤ n) (O : CellTallies nD τ sig Unit) (hO : Above n O) :
    iprop(known x K ∗ owe c O ∗ atPos eScan (dCell d c) 0 ∅ 0 ∗ R ∗ ((owe c O ∗ semVal (dCell d c) 0 ∗ R') -∗ Goal c k Q))
      ⊢ Goal c (dite P t fun _ => k) Q := by
  by_cases h : P
  · obtain ⟨w, hw, hte⟩ := ht h
    have ho := hP.mp h
    rw [dif_pos h, hte]
    unfold owe
    iintro ⟨#Hk, ⟨%W, HO⟩, Hat, HR, Hc⟩
    ihave Hcr := (hR ho) $$ HR
    iapply (Rounds.wp_wait_rest_token noVar eScan (sched x) (c : Thread nD τ) none (κ := K (c, .inr d)) (sm := dsem d)
        hw (Set.mem_univ _) () (O := O) (W := W) (R := 0) (m := 0) (T := ∅)
        (by rw [Nat.zero_add, expect_xfer x c d ho])) $$ [Hcr HO Hat]
    · isplitr; · iapply (known_inv x K (c, .inr d)); iexact Hk
      isplitl [Hcr]; · iexact Hcr
      isplitl [HO]; · iexact HO
      isplitr; · iapply (known_mayWait x K (c := c) (sm := dsem d) hn hO); iexact Hk
      iexact Hat
    iintro ⟨HO, Hat, -, Hpay⟩
    ihave Hp := (Entails.of_eq (rest_xfer x c d ho)) $$ Hpay
    ihave Hp' := hR₁ $$ Hp
    imod (Rounds.cell_close eScan (sched x) (Set.mem_univ (K (c, .inr d))) (fun h => h) (R := 0 + 1) (duties_later x (dCell d c))) $$ [Hat] with Hz
    · isplitr; · iapply (known_inv x K (c, .inr d)); iexact Hk
      iexact Hat
    iapply Hc
    isplitl [HO]; · iexists _; iexact HO
    isplitl [Hz]; · iexact Hz
    iapply Hp'; ipureintro; exact ho
  · have ho : ¬ Own d c := fun h' => h (hP.mpr h')
    rw [dif_neg h]
    iintro ⟨#Hk, HO, Hat, HR, Hc⟩
    imod (Rounds.cell_close eScan (sched x) (Set.mem_univ (K (c, .inr d))) (fun h => h) (R := 0) (duties_idle x c d ho)) $$ [Hat] with Hz
    · isplitr; · iapply (known_inv x K (c, .inr d)); iexact Hk
      iexact Hat
    iapply Hc
    isplitl [HO]; · iexact HO
    isplitl [Hz]; · iexact Hz
    iapply (hR₂ ho); iexact HR

/-- The credit for the row a device expects at step `s`. -/
def expected (s : Fin 4) (c : Dev nD) : sProp 𝕄 :=
  if HasSrc s.val c then cred (tallyAt (dCell (s, true) c) () credit) else iprop(emp)
/-- The landing row of step `s` after its wait: at the running row of the device below, or untouched where none comes. -/
def arrived (s : Fin 4) (c : Dev nD) : sProp 𝕄 :=
  if HasSrc s.val c then rowAt s c (runV x s.val (dn s.val c)) else rowFree s c

/-- The wait for the row from below. -/
theorem wp_receive {α : Type} {Q : α → sProp 𝕄} (s : Fin 4) {P : Prop} [Decidable P] (hP : P ↔ HasSrc s.val c)     {k : Prog (TpuEff nD τ sig (Elt F) Λ₀ .tc) α}
    {hsrc : P → (runM : Memref sig .tc .vmem S1x512 .f32).view.WordExact} {hdst : P → (rowM s : Memref sig .tc .vmem S1x512 .f32).view.WordExact}
    (O : CellTallies nD τ sig Unit) (hO : Above (s.val + 2) O) :
    iprop(known x K ∗ owe c O ∗ atPos eScan (dCell (s, true) c) 0 ∅ 0 ∗ (expected s c ∗ kept s c)
        ∗ ((owe c O ∗ semVal (dCell (s, true) c) 0 ∗ arrived x s c) -∗ Goal c k Q))
      ⊢ Goal c (dite P (fun h => .op (.waitDma2 (recvS s) runM (rowM s) (hsrc h) (hdst h)) fun _ => k) fun _ => k) Q := by
  refine wp_xfer x K c (s, true) hP (fun h => ?_) (fun h => ?_) ?_ (fun h => ?_) (s.val + 2) (by rw [rank_recv]) O hO
  · exact ⟨.waitDma2 (recvS s) runM (rowM s) (hsrc h) (hdst h), fun R => wpE_waitDma2_eq noVar (c : Thread nD τ) none Set.univ R, rfl⟩
  · unfold expected; rw [if_pos (show HasSrc s.val c from h)]
    iintro ⟨H, -⟩; iexact H
  · show rowAt s c (runV x s.val (dn s.val c)) ⊢ _
    iintro H %h
    unfold arrived; rw [if_pos (show HasSrc s.val c from h)]; iexact H
  · unfold kept arrived; rw [if_neg (show ¬ HasSrc s.val c from h), if_neg (show ¬ HasSrc s.val c from h)]
    iintro ⟨-, H⟩; iexact H

/-- The wait for one's own send: the running row is back. -/
theorem wp_passed {α : Type} {Q : α → sProp 𝕄} (s : Fin 4) {P : Prop} [Decidable P] (hP : P ↔ HasDst s.val c)     {k : Prog (TpuEff nD τ sig (Elt F) Λ₀ .tc) α}
    {hsrc : P → (rowM s : Memref sig .tc .vmem S1x512 .f32).view.WordExact} {hdst : P → (runM : Memref sig .tc .vmem S1x512 .f32).view.WordExact}
    (O : CellTallies nD τ sig Unit) (hO : Above 0 O) :
    iprop(known x K ∗ owe c O ∗ atPos eScan (dCell (s, false) c) 0 ∅ 0 ∗ inFlight x s c
        ∗ ((owe c O ∗ semVal (dCell (s, false) c) 0 ∗ runPts c (runV x s.val c)) -∗ Goal c k Q))
      ⊢ Goal c (dite P (fun h => .op (.waitDma2 (sendS s) (rowM s) runM (hsrc h) (hdst h)) fun _ => k) fun _ => k) Q := by
  refine wp_xfer x K c (s, false) hP (fun h => ?_) (fun h => ?_) ?_ (fun h => ?_) 0 (by rw [rank_send]) O hO
  · exact ⟨.waitDma2 (sendS s) (rowM s) runM (hsrc h) (hdst h), fun R => wpE_waitDma2_eq noVar (c : Thread nD τ) none Set.univ R, rfl⟩
  · unfold inFlight; rw [if_pos (show HasDst s.val c from h)]
  · show runPts c (runV x s.val c) ⊢ _
    iintro H %h
    iexact H
  · unfold inFlight; rw [if_neg (show ¬ HasDst s.val c from h)]

/-! ## Adding the arrived row -/

abbrev runR : Rect S1x512 := Rect.unit (s := S1x512) ![0, 0] S1x512.size inb_S1x512_S1x512_0_0
abbrev bigR : Rect S512x512 := Rect.unit (s := S512x512) ![0, 0] S512x512.size inb_S512x512_S512x512_0_0

theorem zeros2 : (![0, 0] : Fin 2 → Nat) = fun _ => 0 := funext fun a => by fin_cases a <;> rfl
theorem run_read (f : Vec F S1x512 .f32) : (runM : Memref sig .tc .vmem S1x512 .f32).view.readAt (Elt F) runR.toLoadRect f = f :=
  Memref.readAt_unit_zero (Elt F) cc0_scratch0 zeros2 _ f
theorem run_write (f w : Vec F S1x512 .f32) :
    ((runM : Memref sig .tc .vmem S1x512 .f32).access runR : View sig .tc _ _ _).write (Elt F) f w Finset.univ = w :=
  Memref.write_access_unit_zero_univ (Elt F) cc0_scratch0 zeros2 _ f w
theorem run_set : (runM : Memref sig .tc .vmem S1x512 .f32).view.set = Finset.univ := View.set_whole _

/-- Reading a step's landing row out of the four rows and dropping the unit axis is reading the row. -/
theorem row_read (s : Fin 4) (f : Buf (Elt F) ((rowM s).view.loc (c : Thread nD τ))) :
    shapeCast S1x512 ((inM : Memref sig .tc .vmem S4x1x512 .f32).view.readAt (Elt F) (rowR s).toLoadRect f) shapeCasts_S1x1x512_S1x512
      = (rowM s).view.read (Elt F) f := rfl
theorem row_sub (s : Fin 4) : (inM : Memref sig .tc .vmem S4x1x512 .f32).view.setOn (rowR s).toLoadRect.set ⊆ (rowM s).view.set := by
  rw [View.set_reshape, View.set_slice]; exact Finset.Subset.refl _

/-- The addition of step `s`: the running row becomes the next one. -/
theorem wp_add {α : Type} {Q : α → sProp 𝕄} (s : Fin 4) {P : Prop} [Decidable P] (hP : P ↔ HasSrc s.val c)     {k : Prog (TpuEff nD τ sig (Elt F) Λ₀ .tc) α}
    {h₁ h₁' : P → (runM : Memref sig .tc .vmem S1x512 .f32).view.LoadsAt runR.toLoadRect}
    {h₂ : P → (inM : Memref sig .tc .vmem S4x1x512 .f32).view.LoadsAt (rowR s).toLoadRect}
    {h₃ : P → ((runM : Memref sig .tc .vmem S1x512 .f32).access runR).Stores Finset.univ}
    {h₄ : P → ((Finset.univ : Finset runR.shape.Idx) = Finset.univ ∨ ∀ a, runR.stride a = 1)} :
    iprop(runPts c (runV x s.val c) ∗ arrived x s c ∗ ((runPts c (runV x (s.val + 1) c) ∗ rowFree s c) -∗ Goal c k Q))
      ⊢ Goal c (dite P (fun h => .op (.load runM runR.toLoadRect (h₁ h)) fun a => .op (.load inM (rowR s).toLoadRect (h₂ h)) fun b =>
          .op (.load runM runR.toLoadRect (h₁' h)) fun _ =>
            .op (.store runM runR (acc a (shapeCast S1x512 b shapeCasts_S1x1x512_S1x512)) Finset.univ (h₃ h) (h₄ h)) fun _ => k) fun _ => k) Q := by
  by_cases h : P
  · have ho := hP.mp h
    rw [dif_pos h]
    unfold arrived runPts rowAt
    rw [if_pos ho, run_set]
    unfold rowPts
    iintro ⟨Hr, ⟨%f, %hf, Hf⟩, Hc⟩
    iapply (wp_load noVar (c : Thread nD τ) none Set.univ (m := runM) (Finset.subset_univ _)) $$ Hr; iintro Hr
    iapply (wp_load noVar (c : Thread nD τ) none Set.univ (m := inM) (row_sub s)) $$ Hf; iintro Hf
    iapply (wp_load noVar (c : Thread nD τ) none Set.univ (m := runM) (Finset.subset_univ _)) $$ Hr; iintro Hr
    iapply (wp_store noVar (c : Thread nD τ) none Set.univ (m := runM) (r := runR) (Mk := Finset.univ) (Finset.subset_univ _)) $$ Hr; iintro Hr
    rw [run_write, run_read, row_read c s f, hf]
    iapply Hc
    isplitl [Hr]
    · have e : runV x (s.val + 1) c = acc (runV x s.val c) (runV x s.val (dn s.val c)) := if_pos ho
      rw [e]; iexact Hr
    unfold rowFree rowPts
    iexists f; iexact Hf
  · have ho : ¬ HasSrc s.val c := fun h' => h (hP.mpr h')
    rw [dif_neg h]
    have e : runV x (s.val + 1) c = runV x s.val c := if_neg ho
    rw [e]
    unfold arrived
    rw [if_neg ho]
    iintro ⟨Hr, Hf, Hc⟩
    iapply Hc
    isplitl [Hr] <;> iassumption

end Cert.Scan

end
-- ==== Proof.Body.lean ====
/-
# The kernel body on one device

The five pieces the body is cut into, and the body itself, each run once, for any device: from the resources the device
starts the piece with to those it leaves with. What comes out in the output's staging buffer is `outV`.
-/
module

public import proofs.«01_k».proof.Proof.Steps

@[expose] public section

set_option maxRecDepth 20000

noncomputable section

namespace Cert.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UBoth ℕ

/-! ## The tests the kernel makes -/

/-- A device's own number, as the kernel computes it. -/
abbrev meW (c : Dev nD) : BitVec 32 := Scalar.remsi (Scalar.divsi (Dev.word c) 1#32) 16#32
/-- Its tests for a device `k` below, and for one `k` above. -/
abbrev geW (c : Dev nD) (k : BitVec 32) : BitVec 1 := Scalar.cmpi .sge (Scalar.subi (meW c) k) 0#32
abbrev ltW (c : Dev nD) (k : BitVec 32) : BitVec 1 := Scalar.cmpi .slt (Scalar.addi (meW c) k) 16#32
/-- A test's result, tested again. -/
abbrev again (b : BitVec 1) : BitVec 1 := Scalar.cmpi .ne (Scalar.extui b : BitVec 32) (0#32)

theorem below0 : ∀ c : Dev nD, k0_cond1 c = 1#1 ↔ HasSrc (0 : Fin 4).val c := by decide +kernel
theorem above0 : ∀ c : Dev nD, k0_cond2 c = 1#1 ↔ HasDst (0 : Fin 4).val c := by decide +kernel
theorem below1 : ∀ c : Dev nD, k0_cond3 c = 1#1 ↔ HasSrc (1 : Fin 4).val c := by decide +kernel
theorem above1 : ∀ c : Dev nD, k0_cond4 c = 1#1 ↔ HasDst (1 : Fin 4).val c := by decide +kernel
theorem below2 : ∀ c : Dev nD, k0_cond5 c = 1#1 ↔ HasSrc (2 : Fin 4).val c := by decide +kernel
theorem above2 : ∀ c : Dev nD, k0_cond6 c = 1#1 ↔ HasDst (2 : Fin 4).val c := by decide +kernel
theorem below3 : ∀ c : Dev nD, k0_cond7 c = 1#1 ↔ HasSrc (3 : Fin 4).val c := by decide +kernel
theorem above3 : ∀ c : Dev nD, k0_cond8 c = 1#1 ↔ HasDst (3 : Fin 4).val c := by decide +kernel
theorem sends0 : ∀ c : Dev nD, k0_cond9 c = 1#1 ↔ HasDst (0 : Fin 4).val c := by decide +kernel
theorem sends1 : ∀ c : Dev nD, k0_cond13 c = 1#1 ↔ HasDst (1 : Fin 4).val c := by decide +kernel
theorem sends2 : ∀ c : Dev nD, k0_cond17 c = 1#1 ↔ HasDst (2 : Fin 4).val c := by decide +kernel
theorem sends3 : ∀ c : Dev nD, k0_cond21 c = 1#1 ↔ HasDst (3 : Fin 4).val c := by decide +kernel
theorem src0 : ∀ c : Dev nD, again (geW c 1#32) = 1#1 ↔ HasSrc (0 : Fin 4).val c := by decide +kernel
theorem src1 : ∀ c : Dev nD, again (geW c 2#32) = 1#1 ↔ HasSrc (1 : Fin 4).val c := by decide +kernel
theorem src2 : ∀ c : Dev nD, again (geW c 4#32) = 1#1 ↔ HasSrc (2 : Fin 4).val c := by decide +kernel
theorem src3 : ∀ c : Dev nD, again (geW c 8#32) = 1#1 ↔ HasSrc (3 : Fin 4).val c := by decide +kernel
theorem dst0 : ∀ c : Dev nD, again (ltW c 1#32) = 1#1 ↔ HasDst (0 : Fin 4).val c := by decide +kernel
theorem dst1 : ∀ c : Dev nD, again (ltW c 2#32) = 1#1 ↔ HasDst (1 : Fin 4).val c := by decide +kernel
theorem dst2 : ∀ c : Dev nD, again (ltW c 4#32) = 1#1 ↔ HasDst (2 : Fin 4).val c := by decide +kernel
theorem dst3 : ∀ c : Dev nD, again (ltW c 8#32) = 1#1 ↔ HasDst (3 : Fin 4).val c := by decide +kernel

/-! ## The devices the kernel addresses -/

theorem to_dn0 : ∀ (c : Dev nD) (h : k0_cond1 c = 1#1), (⟨k0_dev1 c, k0_dev1_lt c h⟩ : Dev nD) = dn (0 : Fin 4).val c := by decide +kernel
theorem to_up0 : ∀ (c : Dev nD) (h : k0_cond2 c = 1#1), (⟨k0_dev2 c, k0_dev2_lt c h⟩ : Dev nD) = up (0 : Fin 4).val c := by decide +kernel
theorem to_dn1 : ∀ (c : Dev nD) (h : k0_cond3 c = 1#1), (⟨k0_dev3 c, k0_dev3_lt c h⟩ : Dev nD) = dn (1 : Fin 4).val c := by decide +kernel
theorem to_up1 : ∀ (c : Dev nD) (h : k0_cond4 c = 1#1), (⟨k0_dev4 c, k0_dev4_lt c h⟩ : Dev nD) = up (1 : Fin 4).val c := by decide +kernel
theorem to_dn2 : ∀ (c : Dev nD) (h : k0_cond5 c = 1#1), (⟨k0_dev5 c, k0_dev5_lt c h⟩ : Dev nD) = dn (2 : Fin 4).val c := by decide +kernel
theorem to_up2 : ∀ (c : Dev nD) (h : k0_cond6 c = 1#1), (⟨k0_dev6 c, k0_dev6_lt c h⟩ : Dev nD) = up (2 : Fin 4).val c := by decide +kernel
theorem to_dn3 : ∀ (c : Dev nD) (h : k0_cond7 c = 1#1), (⟨k0_dev7 c, k0_dev7_lt c h⟩ : Dev nD) = dn (3 : Fin 4).val c := by decide +kernel
theorem to_up3 : ∀ (c : Dev nD) (h : k0_cond8 c = 1#1), (⟨k0_dev8 c, k0_dev8_lt c h⟩ : Dev nD) = up (3 : Fin 4).val c := by decide +kernel
theorem pass_up0 : ∀ (c : Dev nD) (h : k0_cond9 c = 1#1), (⟨k0_dev9 c, k0_dev9_lt c h⟩ : Dev nD) = up (0 : Fin 4).val c := by decide +kernel
theorem pass_up1 : ∀ (c : Dev nD) (h : k0_cond13 c = 1#1), (⟨k0_dev10 c, k0_dev10_lt c h⟩ : Dev nD) = up (1 : Fin 4).val c := by decide +kernel
theorem pass_up2 : ∀ (c : Dev nD) (h : k0_cond17 c = 1#1), (⟨k0_dev11 c, k0_dev11_lt c h⟩ : Dev nD) = up (2 : Fin 4).val c := by decide +kernel
theorem pass_up3 : ∀ (c : Dev nD) (h : k0_cond21 c = 1#1), (⟨k0_dev12 c, k0_dev12_lt c h⟩ : Dev nD) = up (3 : Fin 4).val c := by decide +kernel

/-! ## What a device holds -/

variable (x : Blocks F) (K : Dev nD × (Unit ⊕ Duty) → ℕ) (c : Dev nD)

/-- For the tellings of step `s`: the two neighbours' barrier tokens and the step's landing row. -/
def tells (s : Fin 4) (c : Dev nD) : sProp 𝕄 :=
  iprop(dutyTok eScan (barCell (dn s.val c)) 0 (s, true) ∗ dutyTok eScan (barCell (up s.val c)) 0 (s, false) ∗ rowFree s c)
/-- For the send of step `s`: its own send token, and the receive token of the device above. -/
def passes (s : Fin 4) (c : Dev nD) : sProp 𝕄 :=
  iprop(dutyTok eScan (dCell (s, false) c) 0 (s, false) ∗ dutyTok eScan (dCell (s, true) (up s.val c)) 0 (s, true))
/-- For the waits of step `s`: its positions on its two semaphores, and the credit for the row from below. -/
def awaits (s : Fin 4) (c : Dev nD) : sProp 𝕄 :=
  iprop(atPos eScan (dCell (s, false) c) 0 ∅ 0 ∗ atPos eScan (dCell (s, true) c) 0 ∅ 0 ∗ expected (F := F) s c)
/-- After step `s`: its two semaphores at zero, its landing row. -/
def settled (s : Fin 4) (c : Dev nD) : sProp 𝕄 :=
  iprop(semVal (dCell (s, false) c) 0 ∗ semVal (dCell (s, true) c) 0 ∗ rowFree s c)
/-- The input's and the output's staging buffer at given contents. -/
def inPts (c : Dev nD) (f : Vec F S512x512 .f32) : sProp 𝕄 := (c : Thread nD τ).loc cc0_stg0_0 ↦{fullShare} f
def outPts (c : Dev nD) (f : Vec F S512x512 .f32) : sProp 𝕄 := (c : Thread nD τ).loc cc0_stg1_0 ↦{fullShare} f

theorem big_read_x (f : Vec F S512x512 .f32) : (xM : Memref sig .tc .vmem S512x512 .f32).view.readAt (Elt F) bigR.toLoadRect f = f :=
  Memref.readAt_unit_zero (Elt F) cc0_stg0_0 zeros2 _ f
theorem big_read_o (f : Vec F S512x512 .f32) : (oM : Memref sig .tc .vmem S512x512 .f32).view.readAt (Elt F) bigR.toLoadRect f = f :=
  Memref.readAt_unit_zero (Elt F) cc0_stg1_0 zeros2 _ f
theorem big_write_o (f w : Vec F S512x512 .f32) :
    ((oM : Memref sig .tc .vmem S512x512 .f32).access bigR : View sig .tc _ _ _).write (Elt F) f w Finset.univ = w :=
  Memref.write_access_unit_zero_univ (Elt F) cc0_stg1_0 zeros2 _ f w

theorem one_word : (1#32 : BitVec 32).toInt = ((1 : ℕ) : ℤ) := by decide

/-! ## The pieces -/

/-- The first piece: the tellings of distances 1 and 2. -/
theorem wp_part1 {Q : (Σ' (d0 : Dev nD) (v2 : BitVec 32) (v3 : Sems sig S_) (v31 : BitVec 32) (v32 : BitVec 32), BitVec 32) → sProp 𝕄} :
    iprop(known x K ∗ owe c (owed₀ c) ∗ tells 0 c ∗ tells 1 c
        ∗ (∀ a b d, (owe c (oBar2 c) ∗ kept 0 c ∗ kept 1 c) -∗ Q ⟨c, meW c, SemArray.scalar (sig.barrier 0 rfl), a, b, d⟩))
      ⊢ Goal c (k0_part1 xM (Memref.isWhole_whole _) oM (Memref.isWhole_whole _) runM (Memref.isWhole_whole _) inM (Memref.isWhole_whole _) cc0_scratch2 cc0_scratch3) Q := by
  rw [k0_part1_eq_skeleton]; unfold k0_part1_skel
  simp only [semSignalWord, Prog.lift, Prog.bind_op, Prog.bind_ret, Prog.pure_eq_ret, wp_deviceId, one_word]
  unfold tells
  iintro ⟨#Hk, HO, ⟨Ht0, Hu0, Hr0⟩, ⟨Ht1, Hu1, Hr1⟩, Hc⟩
  iapply (wp_tell_below x K c 0 (below0 c) (to_dn0 c) (oBar1 c + tBar (0, false) c))
  isplitr; · iexact Hk
  isplitl [HO]; · iexact HO
  isplitl [Ht0]; · iexact Ht0
  isplitl [Hr0]; · iexact Hr0
  iintro ⟨HO, Hk0⟩
  iapply (wp_tell_above x K c 0 (above0 c) (to_up0 c) (oBar1 c))
  isplitr; · iexact Hk
  isplitl [HO]; · iexact HO
  isplitl [Hu0]; · iexact Hu0
  iintro HO
  iapply (wp_tell_below x K c 1 (below1 c) (to_dn1 c) (oBar2 c + tBar (1, false) c))
  isplitr; · iexact Hk
  isplitl [HO]; · iexact HO
  isplitl [Ht1]; · iexact Ht1
  isplitl [Hr1]; · iexact Hr1
  iintro ⟨HO, Hk1⟩
  iapply (wp_tell_above x K c 1 (above1 c) (to_up1 c) (oBar2 c))
  isplitr; · iexact Hk
  isplitl [HO]; · iexact HO
  isplitl [Hu1]; · iexact Hu1
  iintro HO
  iapply (wp_returned c)
  iapply Hc
  isplitl [HO]; · iexact HO
  isplitl [Hk0] <;> iassumption

set_option maxHeartbeats 1600000 in
/-- The second piece: the tellings of distances 4 and 8, the wait for all tellings, and the block's column sums put into
    the running row. -/
theorem wp_part2 (v3 : Sems sig S_) (hv : v3 = SemArray.scalar (sig.barrier 0 rfl)) (a b d : BitVec 32) {Q : (Σ' (v63 : FVec F S1x512 .f32), BitVec 32) → sProp 𝕄} :
    iprop(known x K ∗ owe c (oBar2 c) ∗ tells 2 c ∗ tells 3 c ∗ atPos eScan (barCell c) 0 ∅ 0 ∗ cred (tallyAt (barCell c) () (neighbours c))
        ∗ inPts c (x c) ∗ (∃ f, runPts c f)
        ∗ ((owe c (oRow0 c) ∗ kept 2 c ∗ kept 3 c ∗ semVal (barCell c) 0 ∗ (bigSep Finset.univ fun s : Fin 4 => lent s c)
            ∗ inPts c (x c) ∗ runPts c (runV x 0 c)) -∗ Q ⟨k0_pay3 (x c), 1#32⟩))
      ⊢ Goal c (k0_part2 xM (Memref.isWhole_whole _) oM (Memref.isWhole_whole _) runM (Memref.isWhole_whole _) inM (Memref.isWhole_whole _) cc0_scratch2 cc0_scratch3 c (meW c) v3 a b d) Q := by
  subst hv
  rw [k0_part2_eq_skeleton]; unfold k0_part2_skel
  simp only [semSignalWord, semWaitWord, Prog.lift, Prog.bind_op, Prog.bind_ret, Prog.pure_eq_ret, wp_deviceId, one_word, amt_eq]
  unfold tells
  iintro ⟨#Hk, HO, ⟨Ht2, Hu2, Hr2⟩, ⟨Ht3, Hu3, Hr3⟩, Hat, Hcr, Hx, ⟨%f, Hrun⟩, Hc⟩
  iapply (wp_tell_below x K c 2 (below2 c) (to_dn2 c) (oBar3 c + tBar (2, false) c))
  isplitr; · iexact Hk
  isplitl [HO]; · iexact HO
  isplitl [Ht2]; · iexact Ht2
  isplitl [Hr2]; · iexact Hr2
  iintro ⟨HO, Hk2⟩
  iapply (wp_tell_above x K c 2 (above2 c) (to_up2 c) (oBar3 c))
  isplitr; · iexact Hk
  isplitl [HO]; · iexact HO
  isplitl [Hu2]; · iexact Hu2
  iintro HO
  iapply (wp_tell_below x K c 3 (below3 c) (to_dn3 c) (oRow0 c + tBar (3, false) c))
  isplitr; · iexact Hk
  isplitl [HO]; · iexact HO
  isplitl [Ht3]; · iexact Ht3
  isplitl [Hr3]; · iexact Hr3
  iintro ⟨HO, Hk3⟩
  iapply (wp_tell_above x K c 3 (above3 c) (to_up3 c) (oRow0 c))
  isplitr; · iexact Hk
  isplitl [HO]; · iexact HO
  isplitl [Hu3]; · iexact Hu3
  iintro HO
  iapply (wp_entered x K c _ rfl (oRow0 c) (above_row0 1 (by decide) c))
  isplitr; · iexact Hk
  isplitl [HO]; · iexact HO
  isplitl [Hat]; · iexact Hat
  isplitl [Hcr]; · iexact Hcr
  iintro ⟨HO, Hz, Hl⟩
  unfold inPts runPts
  rw [run_set]
  iapply (wp_load noVar (c : Thread nD τ) none Set.univ (m := xM) (Finset.subset_univ _)) $$ Hx; iintro Hx
  iapply (wp_load noVar (c : Thread nD τ) none Set.univ (m := runM) (Finset.subset_univ _)) $$ Hrun; iintro Hrun
  iapply (wp_store noVar (c : Thread nD τ) none Set.univ (m := runM) (r := runR) (Mk := Finset.univ) (Finset.subset_univ _)) $$ Hrun; iintro Hrun
  rw [run_write, big_read_x]
  iapply (wp_returned c)
  iapply Hc
  isplitl [HO]; · iexact HO
  isplitl [Hk2]; · iexact Hk2
  isplitl [Hk3]; · iexact Hk3
  isplitl [Hz]; · iexact Hz
  isplitl [Hl]; · iexact Hl
  isplitl [Hx]; · iexact Hx
  iexact Hrun

/-- The third piece: the send of step 0. -/
theorem wp_part3 (a : BitVec 32) {Q : (Σ' (v68 : BitVec 32) (v70 : BitVec 32) (v72 : BitVec 32) (v74 : BitVec 32), FVec F S512x512 .f32) → sProp 𝕄} :
    iprop(known x K ∗ owe c (oRow0 c) ∗ lent 0 c ∗ runPts c (runV x 0 c) ∗ passes 0 c ∗ inPts c (x c)
        ∗ (∀ v68 v70 v72 v74, (owe c (oRow1 c) ∗ inFlight x 0 c ∗ inPts c (x c)) -∗ Q ⟨v68, v70, v72, v74, k0_pay5 (x c)⟩))
      ⊢ Goal c (k0_part3 xM (Memref.isWhole_whole _) oM (Memref.isWhole_whole _) runM (Memref.isWhole_whole _) inM (Memref.isWhole_whole _) cc0_scratch2 cc0_scratch3 c (meW c) a) Q := by
  rw [k0_part3_eq_skeleton]; unfold k0_part3_skel
  simp only [semSignalWord, semWaitWord, Prog.lift, Prog.bind_op, Prog.bind_ret, Prog.pure_eq_ret, wp_deviceId, one_word, amt_eq]
  unfold passes
  iintro ⟨#Hk, HO, Hl0, Hrun, ⟨Hts0, Htr0⟩, Hx, Hc⟩
  -- the send of step 0
  iapply (wp_pass x K c 0 (sends0 c) (pass_up0 c) (oRow1 c))
  isplitr; · iexact Hk
  isplitl [HO]; · iexact HO
  isplitl [Hl0]; · iexact Hl0
  isplitl [Hrun]; · iexact Hrun
  isplitl [Hts0]; · iexact Hts0
  isplitl [Htr0]; · iexact Htr0
  iintro ⟨HO, Hrun⟩
  unfold inPts
  iapply (wp_load noVar (c : Thread nD τ) none Set.univ (m := xM) (Finset.subset_univ _)) $$ Hx; iintro Hx
  rw [big_read_x]
  iapply (wp_returned c)
  iapply Hc
  isplitl [HO]; · iexact HO
  isplitl [Hrun] <;> iassumption

set_option maxHeartbeats 1600000 in
/-- The fourth piece: the block's own scan stored, the waits and the addition of step 0, the send of step 1. -/
theorem wp_part4 (a b : BitVec 32) (v : FVec F S512x512 .f32) {Q : (Σ' (v129 : BitVec 1), BitVec 1) → sProp 𝕄} :
    iprop(known x K ∗ owe c (oRow1 c) ∗ (∃ f, outPts c f) ∗ inFlight x 0 c ∗ awaits 0 c ∗ kept 0 c ∗ lent 1 c ∗ passes 1 c
        ∗ ((owe c (oRow2 c) ∗ outPts c (k0_pay6 v) ∗ settled 0 c ∗ inFlight x 1 c) -∗ Q ⟨geW c 2#32, ltW c 2#32⟩))
      ⊢ Goal c (k0_part4 xM (Memref.isWhole_whole _) oM (Memref.isWhole_whole _) runM (Memref.isWhole_whole _) inM (Memref.isWhole_whole _) cc0_scratch2 cc0_scratch3 c (meW c) a b v) Q := by
  rw [k0_part4_eq_skeleton]; unfold k0_part4_skel
  simp only [semSignalWord, semWaitWord, Prog.lift, Prog.bind_op, Prog.bind_ret, Prog.pure_eq_ret, wp_deviceId, one_word, amt_eq]
  unfold passes awaits settled outPts
  iintro ⟨#Hk, HO, ⟨%f, Hout⟩, Hrun, ⟨Hs0, Hv0, He0⟩, Hk0, Hl1, ⟨Hts1, Htr1⟩, Hc⟩
  iapply (wp_load noVar (c : Thread nD τ) none Set.univ (m := oM) (Finset.subset_univ _)) $$ Hout; iintro Hout
  iapply (wp_store noVar (c : Thread nD τ) none Set.univ (m := oM) (r := bigR) (Mk := Finset.univ) (Finset.subset_univ _)) $$ Hout; iintro Hout
  rw [big_write_o]
  -- the waits and the addition of step 0
  iapply (wp_receive x K c 0 (src0 c) (oRow1 c) (above_row1 c))
  isplitr; · iexact Hk
  isplitl [HO]; · iexact HO
  isplitl [Hv0]; · iexact Hv0
  isplitl [He0 Hk0]
  · isplitl [He0] <;> iassumption
  iintro ⟨HO, Hzr0, Ha0⟩
  iapply (wp_passed x K c 0 (dst0 c) (oRow1 c) (Above.weaken (by decide) (above_row1 c)))
  isplitr; · iexact Hk
  isplitl [HO]; · iexact HO
  isplitl [Hs0]; · iexact Hs0
  isplitl [Hrun]; · iexact Hrun
  iintro ⟨HO, Hzs0, Hrun⟩
  iapply (wp_add x c 0 (src0 c))
  isplitl [Hrun]; · iexact Hrun
  isplitl [Ha0]; · iexact Ha0
  iintro ⟨Hrun, Hr0⟩
  -- the send of step 1
  iapply (wp_pass x K c 1 (sends1 c) (pass_up1 c) (oRow2 c))
  isplitr; · iexact Hk
  isplitl [HO]; · iexact HO
  isplitl [Hl1]; · iexact Hl1
  isplitl [Hrun]; · iexact Hrun
  isplitl [Hts1]; · iexact Hts1
  isplitl [Htr1]; · iexact Htr1
  iintro ⟨HO, Hrun⟩
  iapply (wp_returned c)
  iapply Hc
  isplitl [HO]; · iexact HO
  isplitl [Hout]; · iexact Hout
  isplitl [Hzs0 Hzr0 Hr0]
  · isplitl [Hzs0]; · iexact Hzs0
    isplitl [Hzr0] <;> iassumption
  iexact Hrun

set_option maxHeartbeats 1600000 in
/-- The fifth piece: the waits and the addition of step 1, the send of step 2, the waits and the addition of step 2. -/
theorem wp_part5 (a b : BitVec 32) {Q : (Σ' (v153 : BitVec 1) (v155 : BitVec 1), BitVec 32) → sProp 𝕄} :
    iprop(known x K ∗ owe c (oRow2 c) ∗ inFlight x 1 c ∗ awaits 1 c ∗ kept 1 c ∗ lent 2 c ∗ passes 2 c ∗ awaits 2 c ∗ kept 2 c
        ∗ (∀ v156, (owe c (oRow3 c) ∗ settled 1 c ∗ settled 2 c ∗ runPts c (runV x 3 c)) -∗ Q ⟨geW c 8#32, ltW c 8#32, v156⟩))
      ⊢ Goal c (k0_part5 xM (Memref.isWhole_whole _) oM (Memref.isWhole_whole _) runM (Memref.isWhole_whole _) inM (Memref.isWhole_whole _) cc0_scratch2 cc0_scratch3 c (meW c) a b (geW c 2#32) (ltW c 2#32)) Q := by
  rw [k0_part5_eq_skeleton]; unfold k0_part5_skel
  simp only [semSignalWord, semWaitWord, Prog.lift, Prog.bind_op, Prog.bind_ret, Prog.pure_eq_ret, wp_deviceId, one_word, amt_eq]
  unfold passes awaits settled
  iintro ⟨#Hk, HO, Hrun, ⟨Hs1, Hv1, He1⟩, Hk1, Hl2, ⟨Hts2, Htr2⟩, ⟨Hs2, Hv2, He2⟩, Hk2, Hc⟩
  -- the waits and the addition of step 1
  iapply (wp_receive x K c 1 (src1 c) (oRow2 c) (above_row2 c))
  isplitr; · iexact Hk
  isplitl [HO]; · iexact HO
  isplitl [Hv1]; · iexact Hv1
  isplitl [He1 Hk1]
  · isplitl [He1] <;> iassumption
  iintro ⟨HO, Hzr1, Ha1⟩
  iapply (wp_passed x K c 1 (dst1 c) (oRow2 c) (Above.weaken (by decide) (above_row2 c)))
  isplitr; · iexact Hk
  isplitl [HO]; · iexact HO
  isplitl [Hs1]; · iexact Hs1
  isplitl [Hrun]; · iexact Hrun
  iintro ⟨HO, Hzs1, Hrun⟩
  iapply (wp_add x c 1 (src1 c))
  isplitl [Hrun]; · iexact Hrun
  isplitl [Ha1]; · iexact Ha1
  iintro ⟨Hrun, Hr1⟩
  -- the send of step 2
  iapply (wp_pass x K c 2 (sends2 c) (pass_up2 c) (oRow3 c))
  isplitr; · iexact Hk
  isplitl [HO]; · iexact HO
  isplitl [Hl2]; · iexact Hl2
  isplitl [Hrun]; · iexact Hrun
  isplitl [Hts2]; · iexact Hts2
  isplitl [Htr2]; · iexact Htr2
  iintro ⟨HO, Hrun⟩
  -- the waits and the addition of step 2
  iapply (wp_receive x K c 2 (src2 c) (oRow3 c) (above_row3 c))
  isplitr; · iexact Hk
  isplitl [HO]; · iexact HO
  isplitl [Hv2]; · iexact Hv2
  isplitl [He2 Hk2]
  · isplitl [He2] <;> iassumption
  iintro ⟨HO, Hzr2, Ha2⟩
  iapply (wp_passed x K c 2 (dst2 c) (oRow3 c) (Above.weaken (by decide) (above_row3 c)))
  isplitr; · iexact Hk
  isplitl [HO]; · iexact HO
  isplitl [Hs2]; · iexact Hs2
  isplitl [Hrun]; · iexact Hrun
  iintro ⟨HO, Hzs2, Hrun⟩
  iapply (wp_add x c 2 (src2 c))
  isplitl [Hrun]; · iexact Hrun
  isplitl [Ha2]; · iexact Ha2
  iintro ⟨Hrun, Hr2⟩
  iapply (wp_returned c)
  iapply Hc
  isplitl [HO]; · iexact HO
  isplitl [Hzs1 Hzr1 Hr1]
  · isplitl [Hzs1]; · iexact Hzs1
    isplitl [Hzr1] <;> iassumption
  isplitl [Hzs2 Hzr2 Hr2]
  · isplitl [Hzs2]; · iexact Hzs2
    isplitl [Hzr2] <;> iassumption
  iexact Hrun

/-! ## The whole body -/

/-- What comes out on device `c`: its block's scan, and to every row of it the running row less the block's own total. -/
def outV : FVec F S512x512 .f32 := k0_pay2 (k0_pay3 (x c)) (k0_pay6 (k0_pay5 (x c))) (runV x 4 c)

omit [FloatOps F] in
theorem bigSep_steps (Φ : Fin 4 → sProp 𝕄) : bigSep Finset.univ Φ = iprop(Φ 0 ∗ Φ 1 ∗ Φ 2 ∗ Φ 3) :=
  bigSep_univ_eq_bigSepL [0, 1, 2, 3] (by decide) (by decide) _

/-- All a device starts with for its four steps, its barrier wait and its buffers. -/
def bodyStart : sProp 𝕄 :=
  iprop(known x K ∗ owe c (owed₀ c) ∗ (bigSep Finset.univ fun s : Fin 4 => tells s c) ∗ (bigSep Finset.univ fun s : Fin 4 => passes s c)
    ∗ (bigSep Finset.univ fun s : Fin 4 => awaits s c) ∗ atPos eScan (barCell c) 0 ∅ 0 ∗ cred (tallyAt (barCell c) () (neighbours c))
    ∗ inPts c (x c) ∗ (∃ f, outPts c f) ∗ (∃ f, runPts c f))
/-- All it ends with: it owes nothing, its semaphores are at zero, and the output's staging buffer holds `outV`. -/
def bodyEnd : sProp 𝕄 :=
  iprop(owe c 0 ∗ (bigSep Finset.univ fun s : Fin 4 => settled s c) ∗ semVal (barCell c) 0
    ∗ inPts c (x c) ∗ outPts c (outV x c) ∗ (∃ f, runPts c f))

set_option maxHeartbeats 3200000 in
/-- The kernel body, from `bodyStart` to `bodyEnd`. -/
theorem wp_body {Q : PUnit → sProp 𝕄} :
    iprop(bodyStart x K c ∗ (bodyEnd x c -∗ Q ⟨⟩))
      ⊢ Goal c (cc0_body xM (Memref.isWhole_whole _) oM (Memref.isWhole_whole _) runM (Memref.isWhole_whole _) inM (Memref.isWhole_whole _) cc0_scratch2 cc0_scratch3) Q := by
  rw [cc0_body_eq_skeleton]; unfold cc0_body_skel bodyStart bodyEnd Goal
  rw [bigSep_steps, bigSep_steps, bigSep_steps, bigSep_steps]
  iintro ⟨⟨#Hk, HO, ⟨HT0, HT1, HT2, HT3⟩, ⟨HP0, HP1, HP2, HP3⟩, ⟨HA0, HA1, HA2, HA3⟩, Hat, Hcr, Hx, Hout, Hrun⟩, Hc⟩
  rw [wp_bind]
  iapply (wp_part1 x K c)
  isplitr; · iexact Hk
  isplitl [HO]; · iexact HO
  isplitl [HT0]; · iexact HT0
  isplitl [HT1]; · iexact HT1
  iintro %a %b %d ⟨HO, Hk0, Hk1⟩
  dsimp only
  rw [wp_bind]
  iapply (wp_part2 x K c _ rfl a b d)
  isplitr; · iexact Hk
  isplitl [HO]; · iexact HO
  isplitl [HT2]; · iexact HT2
  isplitl [HT3]; · iexact HT3
  isplitl [Hat]; · iexact Hat
  isplitl [Hcr]; · iexact Hcr
  isplitl [Hx]; · iexact Hx
  isplitl [Hrun]; · iexact Hrun
  iintro ⟨HO, Hk2, Hk3, Hz, Hl, Hx, Hrun⟩
  ihave Hl' := (Entails.of_eq (bigSep_steps fun s => lent s c)) $$ Hl
  icases Hl' with ⟨Hl0, Hl1, Hl2, Hl3⟩
  dsimp only
  rw [wp_bind]
  iapply (wp_part3 x K c _)
  isplitr; · iexact Hk
  isplitl [HO]; · iexact HO
  isplitl [Hl0]; · iexact Hl0
  isplitl [Hrun]; · iexact Hrun
  isplitl [HP0]; · iexact HP0
  isplitl [Hx]; · iexact Hx
  iintro %w1 %w2 %w3 %w4 ⟨HO, Hrun, Hx⟩
  dsimp only
  rw [wp_bind]
  iapply (wp_part4 x K c _ _ _)
  isplitr; · iexact Hk
  isplitl [HO]; · iexact HO
  isplitl [Hout]; · iexact Hout
  isplitl [Hrun]; · iexact Hrun
  isplitl [HA0]; · iexact HA0
  isplitl [Hk0]; · iexact Hk0
  isplitl [Hl1]; · iexact Hl1
  isplitl [HP1]; · iexact HP1
  iintro ⟨HO, Hout, HS0, Hrun⟩
  dsimp only
  rw [wp_bind]
  iapply (wp_part5 x K c _ _)
  isplitr; · iexact Hk
  isplitl [HO]; · iexact HO
  isplitl [Hrun]; · iexact Hrun
  isplitl [HA1]; · iexact HA1
  isplitl [Hk1]; · iexact Hk1
  isplitl [Hl2]; · iexact Hl2
  isplitl [HP2]; · iexact HP2
  isplitl [HA2]; · iexact HA2
  isplitl [Hk2]; · iexact Hk2
  iintro %w5 ⟨HO, HS1, HS2, Hrun⟩
  dsimp only
  simp only [Prog.lift, Prog.bind_op, Prog.bind_ret, Prog.pure_eq_ret]
  unfold passes awaits
  icases HP3 with ⟨Hts3, Htr3⟩
  icases HA3 with ⟨Hs3, Hv3, He3⟩
  -- the send of step 3
  iapply (wp_pass x K c 3 (sends3 c) (pass_up3 c) (0))
  isplitr; · iexact Hk
  isplitl [HO]; · iexact HO
  isplitl [Hl3]; · iexact Hl3
  isplitl [Hrun]; · iexact Hrun
  isplitl [Hts3]; · iexact Hts3
  isplitl [Htr3]; · iexact Htr3
  iintro ⟨HO, Hrun⟩
  -- the waits and the addition of step 3
  iapply (wp_receive x K c 3 (src3 c) (0) (Above.zero 5))
  isplitr; · iexact Hk
  isplitl [HO]; · iexact HO
  isplitl [Hv3]; · iexact Hv3
  isplitl [He3 Hk3]
  · isplitl [He3] <;> iassumption
  iintro ⟨HO, Hzr3, Ha3⟩
  iapply (wp_passed x K c 3 (dst3 c) (0) (Above.weaken (by decide) (Above.zero 5)))
  isplitr; · iexact Hk
  isplitl [HO]; · iexact HO
  isplitl [Hs3]; · iexact Hs3
  isplitl [Hrun]; · iexact Hrun
  iintro ⟨HO, Hzs3, Hrun⟩
  iapply (wp_add x c 3 (src3 c))
  isplitl [Hrun]; · iexact Hrun
  isplitl [Ha3]; · iexact Ha3
  iintro ⟨Hrun, Hr3⟩
  unfold outPts runPts
  rw [run_set]
  iapply (wp_load noVar (c : Thread nD τ) none Set.univ (m := oM) (Finset.subset_univ _)) $$ Hout; iintro Hout
  iapply (wp_load noVar (c : Thread nD τ) none Set.univ (m := runM) (Finset.subset_univ _)) $$ Hrun; iintro Hrun
  iapply (wp_load noVar (c : Thread nD τ) none Set.univ (m := oM) (Finset.subset_univ _)) $$ Hout; iintro Hout
  iapply (wp_store noVar (c : Thread nD τ) none Set.univ (m := oM) (r := bigR) (Mk := Finset.univ) (Finset.subset_univ _)) $$ Hout; iintro Hout
  rw [big_write_o, run_read, big_read_o]
  iapply (wp_returned c)
  iapply Hc
  isplitl [HO]; · iexact HO
  isplitl [HS0 HS1 HS2 Hzs3 Hzr3 Hr3]
  · isplitl [HS0]; · iexact HS0
    isplitl [HS1]; · iexact HS1
    isplitl [HS2]; · iexact HS2
    unfold settled
    isplitl [Hzs3]; · iexact Hzs3
    isplitl [Hzr3] <;> iassumption
  isplitl [Hz]; · iexact Hz
  isplitl [Hx]; · iexact Hx
  isplitl [Hout]; · unfold outV; iexact Hout
  iexists _; iexact Hrun

end Cert.Scan

end
-- ==== Proof.Funding.lean ====
/-
# What the launch hands every device

The launch makes, for all devices at once, every semaphore's record and every duty's token, and the credits for what the
devices owe one another. This module deals them out: each device gets the positions on its own semaphores, the tokens of
the duties it will pay itself, and the credit for the units it will wait for.
-/
module

public import proofs.«01_k».proof.Proof.Body

@[expose] public section

set_option maxRecDepth 20000

noncomputable section

namespace Cert.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UBoth ℕ

/-! ## The credits -/

/-- All the units device `c` will wait for: one from each neighbour, and a row's credit for each row that comes. -/
def awaited (c : Dev nD) : CellTallies nD τ sig Unit :=
  tallyAt (barCell c) () (neighbours c) + ∑ s : Fin 4, if HasSrc s.val c then tallyAt (dCell (s, true) c) () credit else 0

/-- What a device owes, as a sum over its duties and steps. -/
theorem owed_eq (c : Dev nD) : owed₀ c = (∑ d : Duty, tBar d c) + ∑ s : Fin 4, tRow s c := by
  rw [Fintype.sum_prod_type, Fin.sum_univ_four, Fin.sum_univ_four]
  simp only [Fintype.sum_bool]
  unfold owed₀ oBar1 oBar2 oBar3 oRow0 oRow1 oRow2 oRow3
  rw [zero_add]
  ac_rfl

/-- Telling is a rearrangement of the devices. -/
def toldEquiv (d : Duty) : Dev nD ≃ Dev nD := ⟨told d, teller d, teller_told d, told_teller d⟩

/-- All barrier units owed anywhere are all barrier units awaited anywhere. -/
theorem bars_sum : (∑ c : Dev nD, ∑ d : Duty, tBar d c) = ∑ c : Dev nD, (tallyAt (barCell c) () (neighbours c) : CellTallies nD τ sig Unit) := by
  have h : ∀ d : Duty, (∑ c : Dev nD, tBar d c)
      = ∑ c : Dev nD, if Own d (teller d c) then (tallyAt (barCell c) () 1 : CellTallies nD τ sig Unit) else 0 := fun d =>
    Fintype.sum_equiv (toldEquiv d) _ _ fun c => by
      show tBar d c = if Own d (teller d (told d c)) then tallyAt (barCell (told d c)) () 1 else 0
      rw [teller_told]; rfl
  rw [Finset.sum_comm, Finset.sum_congr rfl fun d _ => h d, Finset.sum_comm]
  refine Finset.sum_congr rfl fun c _ => ?_
  have hs : ∀ S : Finset Duty, (∑ _d ∈ S, (tallyAt (barCell c) () 1 : CellTallies nD τ sig Unit)) = tallyAt (barCell c) () S.card := fun S => by
    induction S using Finset.induction_on with
    | empty => rw [Finset.sum_empty, Finset.card_empty, tallyAt_zero]
    | insert a S ha ih => rw [Finset.sum_insert ha, ih, Finset.card_insert_of_notMem ha, tallyAt_add, Nat.add_comm]
  rw [← Finset.sum_filter, hs]; rfl

/-- All rows owed anywhere are all rows awaited anywhere. -/
theorem rows_sum (s : Fin 4) : (∑ c : Dev nD, tRow s c)
    = ∑ c : Dev nD, if HasSrc s.val c then (tallyAt (dCell (s, true) c) () credit : CellTallies nD τ sig Unit) else 0 :=
  Fintype.sum_equiv (upEquiv s) _ _ fun c => by
    show tRow s c = if HasSrc s.val (up s.val c) then tallyAt (dCell (s, true) (up s.val c)) () credit else 0
    unfold tRow
    by_cases h : HasDst s.val c
    · rw [if_pos h, if_pos ((has_told s c).1 h)]
    · rw [if_neg h, if_neg fun h' => h ((has_teller s c).2.mp h')]

theorem owed_sum : (∑ c : Dev nD, owed₀ c) = ∑ c : Dev nD, awaited c := by
  unfold awaited
  rw [Finset.sum_congr rfl fun c _ => owed_eq c, Finset.sum_add_distrib, Finset.sum_add_distrib, bars_sum, Finset.sum_comm,
    Finset.sum_comm (s := Finset.univ) (t := Finset.univ) (f := fun (c : Dev nD) (s : Fin 4) => if HasSrc s.val c then _ else _)]
  exact congrArg _ (Finset.sum_congr rfl fun s _ => rows_sum s)

/-- A device awaits units on its own semaphores only. -/
theorem awaited_own (c : Dev nD) (g : GSem nD τ sig) (h : awaited c g ≠ 0) : g.1 = (c.tc : Thread nD τ) := by
  by_contra hne
  refine h ?_
  have h0 : ∀ (sm : SemLoc sig) (k : ℕ), (tallyAt ((c : Thread nD τ), sm) () k : CellTallies nD τ sig Unit) g = 0 := fun sm k =>
    tallyAt_ne_cell (fun he => hne (congrArg Prod.fst he)) () k
  unfold awaited
  rw [Pi.add_apply, h0, zero_add, Finset.sum_apply]
  refine Finset.sum_eq_zero fun s _ => ?_
  split
  · exact h0 _ _
  · rfl

/-- The launch's credit for a device is the credit for its barrier units and for each row it expects. -/
theorem credits (c : Dev nD) : (Pipeline.launchCred owed₀ c : sProp 𝕄)
    ⊢ iprop(cred (tallyAt (barCell c) () (neighbours c)) ∗ bigSep Finset.univ fun s : Fin 4 => expected (F := F) s c) := by
  rw [Pipeline.launchCred_of_sum owed₀ awaited owed_sum awaited_own c]
  unfold awaited
  refine (cred_add _ _).1.trans (sep_mono_right ?_)
  rw [Pipeline.cred_finsetSum]
  refine bigSep_mono fun s _ => ?_
  unfold expected
  split
  · exact BI.Entails.refl _
  · rw [cred_zero]; exact BI.Entails.refl _

/-! ## The records, positions and tokens -/

variable (x : Blocks F)

theorem kcell_inj : Function.Injective (kcell : Dev nD × (Unit ⊕ Duty) → GSem nD τ sig) := by
  rintro ⟨c, k⟩ ⟨c', k'⟩ h
  have h1 : c = c' := by have := congrArg (fun g : GSem nD τ sig => g.1.1) h; exact this
  subst h1
  have h2 : k = k' := csem_inj (congrArg Prod.snd h)
  subst h2; rfl
def allCells : Finset (GSem nD τ sig) := Finset.univ.map ⟨kcell, kcell_inj⟩

/-- The tokens of the duties on a device's own semaphores: for each duty one on its barrier, one on its transfer semaphore. -/
abbrev mint (cd : Dev nD × (Duty ⊕ Duty)) : GSem nD τ sig × ℕ × Duty := match cd.2 with
  | .inl d => (barCell cd.1, 0, d)
  | .inr d => (dCell d cd.1, 0, d)
theorem mint_inj : Function.Injective mint := by
  rintro ⟨c, j⟩ ⟨c', j'⟩ h
  have h1 : c = c' := by
    have := congrArg (fun y : GSem nD τ sig × ℕ × Duty => y.1.1.1) h
    rcases j with d | d <;> rcases j' with d' | d' <;> exact this
  subst h1
  have h2 : j = j' := by
    rcases j with d | d <;> rcases j' with d' | d'
    · exact congrArg Sum.inl (congrArg (fun y : GSem nD τ sig × ℕ × Duty => y.2.2) h)
    · exact absurd (congrArg (fun y : GSem nD τ sig × ℕ × Duty => y.1.2) h).symm (dsem_ne_bar d')
    · exact absurd (congrArg (fun y : GSem nD τ sig × ℕ × Duty => y.1.2) h) (dsem_ne_bar d)
    · exact congrArg Sum.inr (congrArg (fun y : GSem nD τ sig × ℕ × Duty => y.2.2) h)
  subst h2; rfl
def allToks : Finset (GSem nD τ sig × ℕ × Duty) := Finset.univ.map ⟨mint, mint_inj⟩

/-- A device's minted tokens. -/
def minted (c : Dev nD) : sProp 𝕄 :=
  iprop((bigSep Finset.univ fun d : Duty => dutyTok eScan (barCell c) 0 d) ∗ bigSep Finset.univ fun d : Duty => dutyTok eScan (dCell d c) 0 d)

/-- What the launch element deals device `c`. -/
def dealt (c : Dev nD) : sProp 𝕄 :=
  iprop((bigSep Finset.univ fun k : Unit ⊕ Duty => roundState eScan (sched x) (kcell (c, k)) 0)
    ∗ (bigSep Finset.univ fun k : Unit ⊕ Duty => atPos eScan (kcell (c, k)) 0 ∅ 0)
    ∗ (bigSep Finset.univ fun k : Unit ⊕ Duty => reached eScan (kcell (c, k)) 0) ∗ minted c)

theorem deal : BI.own (eScan (initOf allCells allToks)) ⊢ (|==> bigSep Finset.univ (dealt x) : sProp 𝕄) := by
  have hX (Φ : GSem nD τ sig → sProp 𝕄) : bigSep allCells Φ = bigSep Finset.univ fun c : Dev nD => bigSep Finset.univ fun k : Unit ⊕ Duty => Φ (kcell (c, k)) := by
    unfold allCells; rw [bigSep_map, bigSep_univ_prod]; rfl
  have hT : bigSep allToks (fun y => (dutyTok eScan y.1 y.2.1 y.2.2 : sProp 𝕄)) = bigSep Finset.univ fun c : Dev nD => minted c := by
    unfold allToks; rw [bigSep_map, bigSep_univ_prod]
    exact bigSep_congr fun c _ => by unfold minted; rw [bigSep_univ_sum]; rfl
  iintro HX
  imod (Rounds.fund eScan (sched x) allCells allToks) $$ HX with ⟨Hst, Hr, Hat, Htok⟩
  imodintro
  ihave Hst' := (Entails.of_eq (hX fun g => roundState eScan (sched x) g 0)) $$ Hst
  ihave Hat' := (Entails.of_eq (hX fun g => atPos eScan g 0 ∅ 0)) $$ Hat
  ihave Hr' := (Entails.of_eq (hX fun g => reached eScan g 0)) $$ Hr
  ihave Htok' := (Entails.of_eq hT) $$ Htok
  unfold dealt; simp only [bigSep_sep']
  isplitl [Hst']; · iexact Hst'
  isplitl [Hat']; · iexact Hat'
  isplitl [Hr']; · iexact Hr'
  iexact Htok'

/-- The transfer semaphores are the kernel's own; the barrier is the launch's one other. -/
theorem barrier_sem (c : Dev nD) : (unscopedSems0 c : sProp 𝕄) = semVal (barCell c) 0 := by
  unfold unscopedSems0; rw [bigSep_eq_bigSepL_of_eq [SemLoc.reg barS] (by decide) (by decide)]; rfl
theorem own_sems (c : Dev nD) : (Pipeline.ownSems0 (Ix := Unit) (Name := ℕ) (U := UBoth) (Lvl := ℕ) (Val := Elt F) (τ := τ) dsem c : sProp 𝕄)
    = bigSep Finset.univ fun d : Duty => semVal (dCell d c) 0 := rfl

theorem bigSep_either (Φ : Unit ⊕ Duty → sProp 𝕄) :
    bigSep Finset.univ Φ = iprop(Φ (.inl ()) ∗ bigSep Finset.univ fun d : Duty => Φ (.inr d)) := by
  have h : bigSep Finset.univ (fun a : Unit => Φ (.inl a)) = Φ (.inl ()) := bigSep_univ_eq_bigSepL [()] (by decide) (by decide) _
  rw [← h]; exact bigSep_univ_sum Φ

theorem all_sems (c : Dev nD) :
    iprop(Pipeline.ownSems0 (Ix := Unit) (Name := ℕ) (U := UBoth) (Lvl := ℕ) (Val := Elt F) (τ := τ) dsem c ∗ unscopedSems0 c)
      ⊢ (bigSep Finset.univ fun k : Unit ⊕ Duty => semVal (kcell (c, k)) 0 : sProp 𝕄) := by
  rw [own_sems, barrier_sem, bigSep_either]
  iintro ⟨HD, HB⟩
  isplitl [HB] <;> iassumption

/-- Each device's semaphores become shared records, whatever names they get. -/
theorem share_cells (c : Dev nD) :
    iprop(Pipeline.ownSems0 (Ix := Unit) (Name := ℕ) (U := UBoth) (Lvl := ℕ) (Val := Elt F) (τ := τ) dsem c ∗ unscopedSems0 c ∗ dealt x c)
      ⊢ |={Set.univ}=> iprop((bigSep Finset.univ fun k : Unit ⊕ Duty => iprop(∃ κ : ℕ, cellInv eScan (sched x) κ (kcell (c, k))))
          ∗ (bigSep Finset.univ fun k : Unit ⊕ Duty => atPos eScan (kcell (c, k)) 0 ∅ 0)
          ∗ (bigSep Finset.univ fun k : Unit ⊕ Duty => reached eScan (kcell (c, k)) 0) ∗ minted c) := by
  unfold dealt
  iintro ⟨Hos, Hus, Hst, Hrest⟩
  ihave Hv := (all_sems (F := F) c) $$ [Hos Hus]
  · isplitl [Hos] <;> iassumption
  imod (show iprop((bigSep Finset.univ fun k : Unit ⊕ Duty => semVal (kcell (c, k)) 0) ∗ bigSep Finset.univ fun k : Unit ⊕ Duty => roundState eScan (sched x) (kcell (c, k)) 0)
      ⊢ (|={Set.univ}=> bigSep Finset.univ fun k => iprop(∃ κ : ℕ, cellInv eScan (sched x) κ (kcell (c, k))) : sProp 𝕄) from by
        rw [← bigSep_sep']
        exact (bigSep_mono fun k _ => (Rounds.body_intro eScan (sched x) (kcell (c, k))).trans inv_alloc).trans (bigSep_fupd _ _)) $$ [Hv Hst] with Hinv
  · isplitl [Hv] <;> iassumption
  imodintro
  isplitl [Hinv]; · iexact Hinv
  iexact Hrest

/-- The tokens a device pays with: its neighbours' barrier tokens, and for its sends its own send tokens and the receive
    tokens of the devices above. -/
def payable (c : Dev nD) : sProp 𝕄 :=
  iprop((bigSep Finset.univ fun s : Fin 4 => iprop(dutyTok eScan (barCell (dn s.val c)) 0 (s, true) ∗ dutyTok eScan (barCell (up s.val c)) 0 (s, false)))
    ∗ bigSep Finset.univ fun s : Fin 4 => passes s c)

/-- The minted tokens, dealt to the devices that pay with them. -/
theorem deal_tokens : (bigSep Finset.univ fun c : Dev nD => (minted c : sProp 𝕄)) ⊢ bigSep Finset.univ fun c : Dev nD => payable c := by
  have hup (s : Fin 4) (Φ : Dev nD → sProp 𝕄) : bigSep Finset.univ Φ = bigSep Finset.univ fun c => Φ (up s.val c) := bigSep_univ_equiv (upEquiv s) Φ
  have hdn (s : Fin 4) (Φ : Dev nD → sProp 𝕄) : bigSep Finset.univ Φ = bigSep Finset.univ fun c => Φ (dn s.val c) := bigSep_univ_equiv (upEquiv s).symm Φ
  unfold minted payable passes
  rw [bigSep_sep', bigSep_sep', bigSep_univ_comm, bigSep_univ_comm (fun (c : Dev nD) (d : Duty) => dutyTok eScan (dCell d c) 0 d),
    bigSep_univ_comm (fun (c : Dev nD) (s : Fin 4) => iprop(dutyTok eScan (barCell (dn s.val c)) 0 (s, true) ∗ dutyTok eScan (barCell (up s.val c)) 0 (s, false))),
    bigSep_univ_comm (fun (c : Dev nD) (s : Fin 4) => iprop(dutyTok eScan (dCell (s, false) c) 0 (s, false) ∗ dutyTok eScan (dCell (s, true) (up s.val c)) 0 (s, true))),
    bigSep_duty, bigSep_duty]
  refine BI.sep_mono (bigSep_mono fun s _ => ?_) (bigSep_mono fun s _ => ?_)
  · rw [bigSep_sep', hup s fun c => dutyTok eScan (barCell c) 0 (s, false), hdn s fun c => dutyTok eScan (barCell c) 0 (s, true)]
    show _ ⊢ (_ : sProp 𝕄)
    iintro ⟨H1, H2⟩
    isplitl [H2] <;> iassumption
  · rw [bigSep_sep', hup s fun c => dutyTok eScan (dCell (s, true) c) 0 (s, true)]
    exact BI.Entails.refl _

/-- What a device is given of all this, apart from the records: its positions and the tokens it pays with. -/
def mine (c : Dev nD) : sProp 𝕄 :=
  iprop(atPos eScan (barCell c) 0 ∅ 0
    ∗ (bigSep Finset.univ fun s : Fin 4 => iprop(atPos eScan (dCell (s, false) c) 0 ∅ 0 ∗ atPos eScan (dCell (s, true) c) 0 ∅ 0)) ∗ payable c)
/-- With them, under some names, all devices' records. -/
def given (c : Dev nD) : sProp 𝕄 := iprop(∃ K : Dev nD × (Unit ⊕ Duty) → ℕ, (bigSep Finset.univ fun ck => record x K ck) ∗ mine c)

theorem positions (c : Dev nD) : (bigSep Finset.univ fun k : Unit ⊕ Duty => (atPos eScan (kcell (c, k)) 0 ∅ 0 : sProp 𝕄))
    = iprop(atPos eScan (barCell c) 0 ∅ 0
      ∗ bigSep Finset.univ fun s : Fin 4 => iprop(atPos eScan (dCell (s, false) c) 0 ∅ 0 ∗ atPos eScan (dCell (s, true) c) 0 ∅ 0)) := by
  rw [bigSep_either, bigSep_duty]

/-- Something shared goes to everyone. -/
theorem with_shared {I : Type} [DecidableEq I] (S : Finset I) {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem hand_out :
    (bigSep Finset.univ fun c : Dev nD => iprop((bigSep Finset.univ fun k : Unit ⊕ Duty => iprop(∃ κ : ℕ, cellInv eScan (sched x) κ (kcell (c, k))))
          ∗ (bigSep Finset.univ fun k : Unit ⊕ Duty => atPos eScan (kcell (c, k)) 0 ∅ 0)
          ∗ (bigSep Finset.univ fun k : Unit ⊕ Duty => reached eScan (kcell (c, k)) 0) ∗ minted c) : sProp 𝕄)
      ⊢ bigSep Finset.univ (given x) := by
  rw [bigSep_sep', bigSep_sep', bigSep_sep', ← bigSep_univ_prod (fun ck : Dev nD × (Unit ⊕ Duty) => iprop(∃ κ : ℕ, cellInv eScan (sched x) κ (kcell ck))),
    ← bigSep_univ_prod (fun ck : Dev nD × (Unit ⊕ Duty) => (reached eScan (kcell ck) 0 : sProp 𝕄))]
  iintro ⟨HI, Hat, #HR, Htok⟩
  ihave HK := (BI.bigSep_exists_pi Finset.univ (fun (ck : Dev nD × (Unit ⊕ Duty)) (κ : ℕ) => (cellInv eScan (sched x) κ (kcell ck) : sProp 𝕄))) $$ HI
  icases HK with ⟨%K, #HI⟩
  ihave Htk := (deal_tokens (F := F)) $$ Htok
  have hgive : ∀ c ∈ (Finset.univ : Finset (Dev nD)), iprop((bigSep Finset.univ fun ck => record x K ck) ∗ mine c) ⊢ given x c := fun c _ => by
    unfold given
    iintro H
    iexists K
    iexact H
  iapply (with_shared Finset.univ (R := bigSep Finset.univ fun ck => record x K ck) hgive)
  isplitr
  · unfold record
    rw [bigSep_sep']
    isplitl; · iexact HI
    iexact HR
  · have hm : iprop((bigSep Finset.univ fun c : Dev nD => bigSep Finset.univ fun k : Unit ⊕ Duty => (atPos eScan (kcell (c, k)) 0 ∅ 0 : sProp 𝕄))
        ∗ bigSep Finset.univ fun c : Dev nD => payable c) ⊢ bigSep Finset.univ fun c : Dev nD => mine c := by
      rw [← bigSep_sep']
      refine bigSep_mono fun c _ => ?_
      unfold mine
      rw [positions]
      show _ ⊢ (_ : sProp 𝕄)
      iintro ⟨⟨H1, H2⟩, H3⟩
      isplitl [H1]; · iexact H1
      isplitl [H2] <;> iassumption
    iapply hm
    isplitl [Hat]; · iexact Hat
    iexact Htk

/-- All of it in one step at launch. -/
theorem hand_out_all : (bigSep Finset.univ fun c =>
      iprop(Pipeline.ownSems0 (Ix := Unit) (Name := ℕ) (U := UBoth) (Lvl := ℕ) (Val := Elt F) (τ := τ) dsem c ∗ unscopedSems0 c ∗ dealt x c) : sProp 𝕄)
    ⊢ |={Set.univ}=> bigSep Finset.univ (given x) :=
  ((bigSep_mono fun c _ => share_cells x c).trans (bigSep_fupd _ _)).trans (BI.fupd_mono (hand_out x))

/-! ## The four landing rows -/

theorem row_set (s : Fin 4) : (rowM s).view.set = (rowR s).set := (View.set_reshape _ _).trans (View.set_slice_whole _ _)
theorem rows_apart (s s' : Fin 4) (h : s ≠ s') : Disjoint (rowM s).view.set (rowM s').view.set := by
  rw [row_set, row_set]
  exact Ring.lead_disjoint (s := S4x1x512) (0 : Fin 3) 1 (fun b : Fin 4 => (![b.val, 0, 0] : Fin 3 → Nat)) S1x1x512.size inb_row
    (fun b => (Nat.one_mul _).symm) rfl s s' h
theorem rows_cover : Finset.biUnion (β := S4x1x512.Idx) Finset.univ (fun s : Fin 4 => (rowM s).view.set) = Finset.univ := by
  rw [show (fun s : Fin 4 => ((rowM s).view.set : Finset S4x1x512.Idx)) = fun s => (rowR s).set from funext row_set]
  exact Ring.lead_cover (s := S4x1x512) (0 : Fin 3) 1 (fun b : Fin 4 => (![b.val, 0, 0] : Fin 3 → Nat)) S1x1x512.size inb_row
    (fun b => (Nat.one_mul _).symm) (by decide) rfl (by decide) (by decide)

/-- The buffer of the four rows, held whole, is the four rows; -/
theorem split_rows (c : Dev nD) (f : Buf (Elt F) ((c : Thread nD τ).loc cc0_scratch1)) :
    ((c : Thread nD τ).loc cc0_scratch1 ↦{fullShare} f : sProp 𝕄) ⊢ bigSep Finset.univ fun s : Fin 4 => rowFree (F := F) s c := by
  rw [Ring.pointsTo_blocks (fun s : Fin 4 => (rowM s).view.set) rows_apart rows_cover f]
  refine bigSep_mono fun s _ => ?_
  unfold rowFree rowPts
  show _ ⊢ (_ : sProp 𝕄)
  iintro H
  iexists f
  iexact H
/-- and the four rows are the buffer, at some contents. -/
theorem join_rows (c : Dev nD) :
    (bigSep Finset.univ fun s : Fin 4 => (rowFree (F := F) s c : sProp 𝕄)) ⊢ iprop(∃ f : Buf (Elt F) ((c : Thread nD τ).loc cc0_scratch1), (c : Thread nD τ).loc cc0_scratch1 ↦{fullShare} f) := by
  unfold rowFree rowPts
  exact Ring.pointsTo_blocks_join_exists (ℓ := (c : Thread nD τ).loc cc0_scratch1) (fun s : Fin 4 => (rowM s).view.set) rows_apart rows_cover (fun _ => default)

end Cert.Scan

end
-- ==== Proof.Launch.lean ====
/-
# The run on all sixteen devices

From the body of one device to the whole program: the launch gives every device what its body starts with, takes back
what it ends with, and every final state has the result array at `outV` of the devices' blocks, the input array unchanged
and every semaphore at zero.
-/
module

public import proofs.«01_k».proof.Proof.Funding
public import Idealize.ShloMosaic.Lib.Quiescent
public import Idealize.ShloMosaic.Lib.Pipeline.CollectiveSegs

@[expose] public section

set_option maxRecDepth 20000

noncomputable section

namespace Cert.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UBoth ℕ

variable (m : (ℓ : Loc nD τ sig) → Buf (Elt F) ℓ) (ρ : Dev nD → PrngReg)

/-- The state at launch: any memory, every semaphore at zero. -/
def atLaunch : MemSt nD τ sig (Elt F) := ⟨m, fun _ => 0, ρ⟩

/-- The devices' blocks of the input array, as they reach the staging buffers. -/
def blocksOf : Blocks F := fun c => (win0_0.blk (0 : Fin 1)).view.read (Elt F) ((atLaunch m ρ).mem ((c : Thread nD τ).loc main_arg0))

/-- A device's ghost start: its share of the deal, its credits, the ranks; -/
def begin (c : Dev nD) : sProp 𝕄 :=
  iprop(given (blocksOf m ρ) c
    ∗ (cred (tallyAt (barCell c) () (neighbours c)) ∗ bigSep Finset.univ fun s : Fin 4 => expected (F := F) s c) ∗ levAts L lv)
/-- with the kernel's own buffers: the landing rows and the running row. -/
def inv0 (c : Dev nD) : sProp 𝕄 :=
  iprop(begin m ρ c ∗ (bigSep Finset.univ fun s : Fin 4 => rowFree (F := F) s c) ∗ ∃ f, runPts (F := F) c f)
/-- What is left after the body besides the windows. -/
def inv1 (c : Dev nD) : sProp 𝕄 :=
  iprop((bigSep Finset.univ fun s : Fin 4 => settled (F := F) s c) ∗ semVal (barCell c) 0 ∗ ∃ f, runPts (F := F) c f)

/-- The pipeline's data: one grid point, the input window's block unchanged by it, the output window's left at `outV`. -/
def data (_ : Fin 1) (c : Dev nD) : Dat τ (Elt F) Unit ℕ UBoth ℕ cfg0 c where
  A w := (atLaunch m ρ).mem ((cfg0.win w).arr.view.loc (c : Thread nD τ))
  after w _ := match w with
    | ⟨0, _⟩ => blocksOf m ρ c
    | ⟨1, _⟩ => outV (blocksOf m ρ) c
  Φ t := match t with
    | ⟨0, _⟩ => inv0 m ρ c
    | ⟨_ + 1, _⟩ => inv1 c
  q _ := fullShare
  owed t := match t with
    | ⟨0, _⟩ => owed₀ c
    | ⟨_ + 1, _⟩ => 0

/-! ## The body's obligation -/

/-- A whole buffer owned at contents `X` is that buffer at `X`. -/
theorem owns_buffer {c : Dev nD} (b : Ref sig .tc) (X : b.ty.Contents (Elt F)) :
    (owns (c : Thread nD τ) (Memref.whole b) fullShare X : sProp 𝕄)
      = iprop(∃ f : Buf (Elt F) ((c : Thread nD τ).loc b), ⌜f = X⌝ ∗ ((c : Thread nD τ).loc b ↦{fullShare} f)) := by
  unfold owns; simp only [Memref.view_whole, View.read_whole, View.set_whole]

theorem input_before (c : Dev nD) (d) : (data m ρ 0 c).before (0 : Fin 2) t0_0 d = blocksOf m ρ c := by
  unfold Dat.before; rw [if_pos (by decide)]; rfl

/-- A staging buffer at given contents, as the pipeline states it. -/
def staged (c : Dev nD) (b : Ref sig .tc) (X : b.ty.Contents (Elt F)) : sProp 𝕄 :=
  iprop(∃ f : Buf (Elt F) ((c : Thread nD τ).loc b), ⌜f = X⌝ ∗ ((c : Thread nD τ).loc b ↦{fullShare} f))

def pointStart (c : Dev nD) : sProp 𝕄 :=
  iprop(inv0 m ρ c ∗ (data m ρ 0 c).owesAt () t0_0.castSucc
    ∗ (∃ d, staged c cc0_stg0_0 ((data m ρ 0 c).before (0 : Fin 2) t0_0 d))
    ∗ (∃ d, staged c cc0_stg1_0 ((data m ρ 0 c).before (1 : Fin 2) t0_0 d)))
def pointEnd (c : Dev nD) : sProp 𝕄 :=
  iprop(inv1 c ∗ (data m ρ 0 c).owesAt () t0_0.succ
    ∗ staged c cc0_stg0_0 (blocksOf m ρ c) ∗ staged c cc0_stg1_0 (outV (blocksOf m ρ) c))

/-- The rows, tokens, positions and credits of a device, step by step. -/
theorem by_steps (c : Dev nD) : iprop(payable (F := F) c ∗ (bigSep Finset.univ fun s : Fin 4 => rowFree (F := F) s c)
      ∗ (bigSep Finset.univ fun s : Fin 4 => iprop(atPos eScan (dCell (s, false) c) 0 ∅ 0 ∗ atPos eScan (dCell (s, true) c) 0 ∅ 0))
      ∗ bigSep Finset.univ fun s : Fin 4 => expected (F := F) s c)
    ⊢ (iprop((bigSep Finset.univ fun s : Fin 4 => tells s c) ∗ (bigSep Finset.univ fun s : Fin 4 => passes s c)
      ∗ bigSep Finset.univ fun s : Fin 4 => awaits s c) : sProp 𝕄) := by
  have h1 : iprop((bigSep Finset.univ fun s : Fin 4 => iprop(dutyTok eScan (barCell (dn s.val c)) 0 (s, true) ∗ dutyTok eScan (barCell (up s.val c)) 0 (s, false)))
      ∗ bigSep Finset.univ fun s : Fin 4 => rowFree (F := F) s c) ⊢ (bigSep Finset.univ fun s : Fin 4 => tells s c : sProp 𝕄) := by
    rw [← bigSep_sep']
    refine bigSep_mono fun s _ => ?_
    unfold tells
    show _ ⊢ (_ : sProp 𝕄)
    iintro ⟨⟨H1, H2⟩, H3⟩
    isplitl [H1]; · iexact H1
    isplitl [H2] <;> iassumption
  have h2 : iprop((bigSep Finset.univ fun s : Fin 4 => iprop(atPos eScan (dCell (s, false) c) 0 ∅ 0 ∗ atPos eScan (dCell (s, true) c) 0 ∅ 0))
      ∗ bigSep Finset.univ fun s : Fin 4 => expected (F := F) s c) ⊢ (bigSep Finset.univ fun s : Fin 4 => awaits s c : sProp 𝕄) := by
    rw [← bigSep_sep']
    refine bigSep_mono fun s _ => ?_
    unfold awaits
    show _ ⊢ (_ : sProp 𝕄)
    iintro ⟨⟨H1, H2⟩, H3⟩
    isplitl [H1]; · iexact H1
    isplitl [H2] <;> iassumption
  unfold payable
  iintro ⟨⟨Ht, Hp⟩, Hr, Ha, He⟩
  isplitl [Ht Hr]
  · iapply h1; isplitl [Ht] <;> iassumption
  isplitl [Hp]; · iexact Hp
  iapply h2; isplitl [Ha] <;> iassumption

theorem point (c : Dev nD) : pointStart m ρ c ⊢ Goal c
    (cc0_body xM (Memref.isWhole_whole _) oM (Memref.isWhole_whole _) runM (Memref.isWhole_whole _) inM (Memref.isWhole_whole _) cc0_scratch2 cc0_scratch3)
    fun _ => pointEnd m ρ c := by
  unfold pointStart inv0 begin given mine staged Dat.owesAt Pipeline.owesWithin
  rw [show (data m ρ 0 c).owed t0_0.castSucc = owed₀ c from rfl]
  iintro ⟨⟨⟨⟨%K, Hrec, Hpos, Hat, Hpay⟩, ⟨Hcr, Hexp⟩, Hlev⟩, Hrows, Hrun⟩, ⟨%W, -, HO⟩, ⟨%d, %f, %hf, Hx⟩, ⟨%d', %f', -, Hout⟩⟩
  rw [input_before] at hf
  subst hf
  ihave Hs := (by_steps (F := F) c) $$ [Hpay Hrows Hat Hexp]
  · isplitl [Hpay]; · iexact Hpay
    isplitl [Hrows]; · iexact Hrows
    isplitl [Hat] <;> iassumption
  icases Hs with ⟨Ht, Hp, Ha⟩
  iapply (wp_body (blocksOf m ρ) K c)
  unfold bodyStart bodyEnd known owe inPts outPts
  isplitl [Hrec Hlev HO Ht Hp Ha Hpos Hcr Hx Hout Hrun]
  · isplitl [Hrec Hlev]
    · isplitl [Hrec] <;> iassumption
    isplitl [HO]
    · iexists W; iexact HO
    isplitl [Ht]; · iexact Ht
    isplitl [Hp]; · iexact Hp
    isplitl [Ha]; · iexact Ha
    isplitl [Hpos]; · iexact Hpos
    isplitl [Hcr]; · iexact Hcr
    isplitl [Hx]; · iexact Hx
    isplitl [Hout]
    · iexists f'; iexact Hout
    iexact Hrun
  iintro ⟨⟨%W', HO⟩, Hset, Hbar, Hx, Hout, Hrun⟩
  unfold pointEnd inv1 staged Dat.owesAt Pipeline.owesWithin
  rw [show (data m ρ 0 c).owed t0_0.succ = 0 from rfl]
  isplitl [Hset Hbar Hrun]
  · isplitl [Hset]; · iexact Hset
    isplitl [Hbar] <;> iassumption
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

theorem both_windows (Φ : Fin cfg0.W → sProp 𝕄) : bigSep Finset.univ Φ = iprop(Φ (0 : Fin 2) ∗ Φ (1 : Fin 2)) := bigSep_W0 Φ

/-- Neither window rests at the point, -/
theorem busy (w : Fin cfg0.W) : cfg0.idle w (cfg0.grid.coords t0_0) = false := by fin_cases w <;> rfl
/-- and the body called there is the kernel's. -/
theorem the_body : defs₀ (F := F) Proc.tc cfg0.body (cfg0.bodyArgs t0_0 (cfg0.slots t0_0))
    = cc0_body xM (Memref.isWhole_whole _) oM (Memref.isWhole_whole _) runM (Memref.isWhole_whole _) inM (Memref.isWhole_whole _) cc0_scratch2 cc0_scratch3 := rfl

theorem point_called (c : Dev nD) : pointStart m ρ c ⊢ wp frame (wpE (defs₀ (F := F)) noVar (c : Thread nD τ) none) Set.univ
    (defs₀ (F := F) Proc.tc cfg0.body (cfg0.bodyArgs t0_0 (cfg0.slots t0_0))) fun _ => pointEnd m ρ c := by
  have h := point m ρ c
  unfold Goal at h
  rw [the_body]
  with_reducible exact h

/-- What the pipeline asks of the body, on every device. -/
theorem body_obligation (c : Dev nD) : BodyObligation (data (F := F) m ρ 0 c) (defs₀ (F := F)) noVar () Set.univ := fun t => by
  rw [show t = t0_0 from fin_N0 t]
  have h := point_called m ρ c
  rw [both_windows, both_windows]
  generalize defs₀ (F := F) Proc.tc cfg0.body (cfg0.bodyArgs t0_0 (cfg0.slots t0_0)) = e at h ⊢
  rw [busy]
  show iprop(inv0 m ρ c ∗ (data m ρ 0 c).owesAt () t0_0.castSucc
      ∗ (∃ d, owns (c : Thread nD τ) (Memref.whole cc0_stg0_0) fullShare ((data m ρ 0 c).before (0 : Fin 2) t0_0 d))
      ∗ (∃ d, owns (c : Thread nD τ) (Memref.whole cc0_stg1_0) fullShare ((data m ρ 0 c).before (1 : Fin 2) t0_0 d)))
    ⊢ wp frame (wpE (defs₀ (F := F)) noVar (c : Thread nD τ) none) Set.univ e fun _ => iprop(inv1 c ∗ (data m ρ 0 c).owesAt () t0_0.succ
      ∗ owns (c : Thread nD τ) (Memref.whole cc0_stg0_0) fullShare (blocksOf m ρ c) ∗ owns (c : Thread nD τ) (Memref.whole cc0_stg1_0) fullShare (outV (blocksOf m ρ) c))
  simp only [owns_buffer]
  exact h

/-! ## The launch's side conditions -/

theorem own_sem_facts : Pipeline.OwnSemFacts cfg0.spec dsem := by decide +kernel

theorem full_share (c : Dev nD) (w : Fin cfg0.W) : (data m ρ 0 c).share w = fullShare := by unfold Dat.share; split <;> rfl

/-- The ghost state made at launch. -/
def made : UBoth :=
  (initOf (Pipeline.cells cfgs cellOf_inj) (Pipeline.launchToks cfgs cellOf_inj), initOf allCells allToks)

theorem begin_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ given (blocksOf m ρ) c)
      ⊢ |={Set.univ}=> iprop(begin m ρ c ∗ emp) := by
  iintro ⟨-, Hlev, Hcr, -, HG⟩
  ihave Hc := (credits (F := F) c) $$ Hcr
  imodintro
  unfold begin
  isplitl
  · isplitl [HG]; · iexact HG
    isplitl [Hc]; · iexact Hc
    iexact Hlev
  · iempintro

theorem run_buffer (c : Dev nD) (f : Vec F S1x512 .f32) : (runPts c f : sProp 𝕄) = ((c : Thread nD τ).loc cc0_scratch0 ↦{fullShare} f) := by
  unfold runPts; rw [run_set]

theorem inv0_intro (c : Dev nD) :
    iprop(begin m ρ c ∗ Pipeline.prefHeld Pipeline.Prefetch.none c (fun _ => fullShare.right) (fun k => k.elim0) ∗ Pipeline.scopedRest cfg0.spec c)
      ⊢ (data m ρ 0 c).Φ 0 := by
  rw [show (data m ρ 0 c).Φ 0 = inv0 m ρ c from rfl, scopedRest0_eq]
  unfold inv0
  iintro ⟨Hs, -, ⟨%f, Hrun⟩, ⟨%g, Hrows⟩⟩
  isplitl [Hs]; · iexact Hs
  isplitl [Hrows]; · iapply (split_rows (F := F) c g); iexact Hrows
  iexists f; rw [run_buffer]; iexact Hrun

theorem settled_split (c : Dev nD) : (bigSep Finset.univ fun s : Fin 4 => (settled (F := F) s c : sProp 𝕄))
    ⊢ iprop((bigSep Finset.univ fun d : Duty => semVal (dCell d c) 0) ∗ bigSep Finset.univ fun s : Fin 4 => rowFree (F := F) s c) := by
  rw [bigSep_duty, ← bigSep_sep']
  refine bigSep_mono fun s _ => ?_
  unfold settled
  show _ ⊢ (_ : sProp 𝕄)
  iintro ⟨H1, H2, H3⟩
  isplitl [H1 H2]
  · isplitl [H1] <;> iassumption
  iexact H3

theorem inv1_exit (c : Dev nD) :
    (data m ρ 0 c).Φ (Fin.last cfg0.N) ⊢ iprop(unscopedSems0 c ∗ Pipeline.ownSems0 dsem c ∗ Pipeline.scopedRest cfg0.spec c) := by
  rw [show (data m ρ 0 c).Φ (Fin.last cfg0.N) = inv1 c from rfl, scopedRest0_eq, own_sems, barrier_sem]
  unfold inv1
  iintro ⟨Hset, Hbar, ⟨%f, Hrun⟩⟩
  ihave Hs := (settled_split (F := F) c) $$ Hset
  icases Hs with ⟨Hsem, Hrows⟩
  isplitl [Hbar]; · iexact Hbar
  isplitl [Hsem]; · iexact Hsem
  isplitl [Hrun]
  · iexists f; rw [← run_buffer]; iexact Hrun
  iapply (join_rows (F := F) c); iexact Hrows

theorem stage_waits (c : Dev nD) : (levAts L lv : sProp 𝕄) ⊢ Pipeline.cellsWaits cfgs (data m ρ) () 0 c :=
  Pipeline.cellsWaits_intro cfgs (data m ρ) () 0 c fun w s t =>
    mayWait (F := F) (n := 0) (by fin_cases w <;> fin_cases s <;> decide) (by
      rcases t with ⟨_ | _, ht⟩
      · exact above_owed₀ c
      · exact Above.zero 0)

/-! ## The run -/

/-- A window's array after the run. -/
def arrayAfter (c : Dev nD) (w : Fin cfg0.W) : Buf (Elt F) ((cfg0.win w).arr.view.loc (c : Thread nD τ)) := (data m ρ 0 c).arrAt w cfg0.N

/-- Whatever memory and generator registers the sixteen devices start from, every fair execution ends, with each window's
    array at its computed contents and every semaphore at zero. -/
theorem run_all : θ_run defs (onTc (τ := τ) (main (F := F))) (atLaunch m ρ) (fun r =>
    (∀ (c : Dev nD) (w : Fin cfg0.W), r.2.mem ((cfg0.win w).arr.view.loc (c : Thread nD τ)) = arrayAfter m ρ c w) ∧ r.2.sem = fun _ => 0) :=
  Pipeline.θ_run_region_owing_glob_pf (fun p => (cfgs p).toPCfg) (fun p => (cfgs p).toPCfg_adm) (data m ρ) () cellOf_inj (0 : Fin 1)
    winFacts0.to₀ own_sem_facts (Pipeline.PreFacts.none _) ePipe defs₀ noVar m ρ main
    (hmain := fun _ => rfl)
    (hbody := body_obligation m ρ) (hne := fun w => by fin_cases w <;> exact Nat.succ_pos _) (harr := arr_whole0) (hstage := stage_whole0) (hshare := full_share m ρ)
    (hdistinct := winFacts0.arr_inj)
    (O₀ := owed₀) (howed₀ := fun _ => rfl) (howedN := fun _ => rfl)
    (L := L) (lv := lv) (hL := L_of_ne) (hwaits := stage_waits m ρ)
    (G := dealt (blocksOf m ρ)) (G' := given (blocksOf m ρ)) (u₀ := made)
    (hu₀ := by
      unfold made
      iintro Hu
      ihave H := (ownU_pair _ _) $$ Hu
      icases H with ⟨HP, HX⟩
      imod (deal (blocksOf m ρ)) $$ HX with HG
      imodintro
      isplitl [HP] <;> iassumption)
    (hglob := hand_out_all (blocksOf m ρ))
    (hA := fun _ _ => rfl) (hpf := fun _ k => k.elim0)
    (X := begin m ρ) (Y := fun c => unscopedSems0 c) (Z := fun _ => iprop(emp))
    (hX := begin_intro m ρ) (hin := inv0_intro m ρ) (hout := inv1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input array is left as it was. -/
theorem input_after (c : Dev nD) : arrayAfter m ρ c (0 : Fin 2) = m ((c : Thread nD τ).loc main_arg0) :=
  (data (F := F) m ρ 0 c).arrAt_in (0 : Fin 2) rfl _

end Cert.Scan

end
-- ==== Proof.Frames.lean ====
/-
# What every run leaves behind

The whole run read at the two arrays: the input array as launched, the result array at `outV` of the devices' input
blocks. From it the frames of the kernel and of its idealization; the reference's frame from its own short run.
-/
module

public import proofs.«01_k».proof.Proof.Launch
public import proofs.«01_k».proof.Defs
public import proofs.«01_k».proof.Proof.Gen.ReferenceIdeal.Run
public import proofs.«01_k».proof.Proof.Gen.Kernel
public import proofs.«01_k».proof.Proof.Gen.KernelIdeal
public import proofs.«01_k».proof.Proof.Gen.ReferenceIdeal
public import proofs.«01_k».proof.Proof.Gen.Pre_finite_KernelIdeal
public import proofs.«01_k».proof.Proof.Gen.Pre_finite_ReferenceIdeal

@[expose] public section

set_option maxRecDepth 20000

noncomputable section

namespace Cert.Scan

open Cert.KernelIdeal Cert.KernelIdeal.Gen

open Idealize.ShloMosaic
open Idealize.ShloMosaic.TcCoe
open Idealize.SL.Sem
open Idealize.ShloMosaic.Pipeline (Dat)

variable {F : FTy → Type} [FloatOps F]

variable (m : (ℓ : Loc nD τ sig) → Buf (Elt F) ℓ) (ρ : Dev nD → PrngReg)

/-! ## The arrays -/

/-- The input window's only block is the input array. -/
theorem input_block (c : Dev nD) (f : Buf (Elt F) ((c : Thread nD τ).loc main_arg0)) : (win0_0.blk t0_0).view.read (Elt F) f = f :=
  Memref.read_access_unit_zero (Elt F) main_arg0
    (show (fun a => (win0_0.index t0_0) a * main_arg0.ty.shape.size a) = fun _ => 0 from
      funext fun a => by fin_cases a <;> decide) (fun a => by fin_cases a <;> decide) f

/-- The output window's only block is the result array. -/
theorem output_block (c : Dev nD) (f : Buf (Elt F) ((c : Thread nD τ).loc main_v1)) : (win0_1.blk t0_0).view.read (Elt F) f = f :=
  Memref.read_access_unit_zero (Elt F) main_v1
    (show (fun a => (win0_1.index t0_0) a * main_v1.ty.shape.size a) = fun _ => 0 from
      funext fun a => by fin_cases a <;> decide) (fun a => by fin_cases a <;> decide) f

/-- The blocks the kernel reads are the input arrays at launch. -/
theorem blocksOf_eq (c : Dev nD) : blocksOf m ρ c = m ((c : Thread nD τ).loc main_arg0) := input_block c _

/-- The output window is written back at the only point. -/
theorem written_back : (cfg0.win (1 : Fin 2)).flush t0_0 = true := by decide

/-- The result array after the run is `outV` of the devices' blocks. -/
theorem output_after (c : Dev nD) : arrayAfter m ρ c (1 : Fin 2) = outV (blocksOf m ρ) c := by
  show (data m ρ 0 c).arrAt (1 : Fin 2) (t0_0.val + 1) = _
  rw [Dat.arrAt_succ, written_back, if_pos rfl]
  exact (output_block c _).symm.trans ((View.read_write_univ _ _).trans (funext fun _ => rfl))

/-- Every fair execution ends with the result array at `outV` of the input arrays, the input array as launched and every
    semaphore at zero. -/
theorem run_main : θ_run defs (onTc (τ := τ) (main (F := F))) ⟨m, fun _ => 0, ρ⟩ (fun r =>
    (∀ c : Dev nD, r.2.mem ((c : Thread nD τ).loc main_v1) = outV (fun e => m ((e : Thread nD τ).loc main_arg0)) c
      ∧ r.2.mem ((c : Thread nD τ).loc main_arg0) = m ((c : Thread nD τ).loc main_arg0)) ∧ r.2.sem = fun _ => 0) :=
  (θ_run defs _ _).mono (fun r h => ⟨fun c =>
    ⟨(h.1 c (1 : Fin 2)).trans ((output_after m ρ c).trans
        (congrArg (fun x : Blocks F => outV x c) (funext fun e => blocksOf_eq m ρ e))),
      (h.1 c (0 : Fin 2)).trans (input_after m ρ c)⟩, h.2⟩) (run_all m ρ)

/-! ## The frames -/

/-- The kernel and its idealization have the same body table, -/
theorem same_bodies : Cert.Kernel.defs₀ (F := F) = Cert.KernelIdeal.defs₀ (F := F) :=
  congrArg Defs.onTc (funext fun l => funext fun a => by
    rcases l with ⟨_ | _, hl⟩
    · rcases a with ⟨t, s⟩
      rfl
    · omega)
/-- with their regions and pipelines too. -/
theorem same_defs : Cert.Kernel.defs (F := F) = Cert.KernelIdeal.defs (F := F) :=
  congrArg (Pipeline.defs (pcfgs (F := F))) same_bodies

/-- The kernel, at the machine's floats: every run ends, its input unchanged and its semaphores at zero. -/
theorem frame_kernel : Cert.quiescent_Kernel := fun m ρ _ => by
  rw [same_defs]
  exact (θ_run Cert.KernelIdeal.defs _ _).mono (fun _ h => ⟨fun c => (h.1 c).2, h.2⟩) (run_main (F := Bits) m ρ)

/-- The same of the kernel at the extended reals, -/
theorem frame_ideal : Cert.quiescent_KernelIdeal := fun m ρ _ =>
  (θ_run Cert.KernelIdeal.defs _ _).mono (fun _ h => ⟨fun c => (h.1 c).2, h.2⟩) (run_main (F := Ideal) m ρ)

/-- in particular from memories whose blocks are finite. -/
theorem frame_ideal_finite : Cert.quiescent_KernelIdeal_pre_finite_KernelIdeal := fun m ρ _ => frame_ideal m ρ trivial

/-- The reference leaves its argument unchanged; it has no semaphores. -/
theorem frame_reference : Cert.quiescent_ReferenceIdeal := fun m ρ _ =>
  (θ_run Cert.ReferenceIdeal.defs _ _).mono (fun _ h => ⟨fun c => (h c).2, sem_eq_zero_of_no_sems rfl _⟩)
    (Cert.ReferenceIdeal.Value.run (F := Ideal) m ρ)

/-- In particular from finite arguments. -/
theorem frame_reference_finite : Cert.quiescent_ReferenceIdeal_pre_finite_ReferenceIdeal := fun m ρ _ => frame_reference m ρ trivial

end Cert.Scan

end
-- ==== Proof.Prefix.lean ====
/-
# Sums of the last so many terms

The scans of this kernel, down the rows of a block and across the devices, double the number of terms each entry sums:
`trail w f n` is the sum of the last `w` terms of `f` up to `n`, and adding to it the same sum `w` places back, where
there is one, doubles `w`. Once `w` exceeds `n` it is the sum of all terms up to `n`.
-/
module

public import Mathlib.Data.EReal.Operations
public import Mathlib.Algebra.BigOperators.Intervals

@[expose] public section

namespace Cert.Scan

open Finset

variable {M : Type} [AddCommMonoid M]

/-- The sum of the last `w` terms of `f` up to `n`, of those there are. -/
def trail (w : ℕ) (f : ℕ → M) (n : ℕ) : M := ∑ i ∈ range w, if i ≤ n then f (n - i) else 0

/-- One term is the term itself. -/
theorem trail_one (f : ℕ → M) (n : ℕ) : trail 1 f n = f n := by simp [trail]

/-- Doubling, where there is an entry `w` places back, -/
theorem trail_double_of_le (w : ℕ) (f : ℕ → M) (n : ℕ) (h : w ≤ n) : trail (w + w) f n = trail w f n + trail w f (n - w) := by
  unfold trail
  rw [sum_range_add]
  refine congrArg _ (sum_congr rfl fun i _ => ?_)
  by_cases hi : i ≤ n - w
  · rw [if_pos hi, if_pos (by omega), Nat.sub_add_eq]
  · rw [if_neg hi, if_neg (by omega)]

/-- and where there is none. -/
theorem trail_double_of_lt (w : ℕ) (f : ℕ → M) (n : ℕ) (h : n < w) : trail (w + w) f n = trail w f n := by
  unfold trail
  rw [sum_range_add, sum_eq_zero (s := range w) (f := fun x => if w + x ≤ n then f (n - (w + x)) else 0)
    fun i _ => if_neg (by omega), add_zero]

/-- Of enough terms it is the sum of all of them. -/
theorem trail_all (w : ℕ) (f : ℕ → M) (n : ℕ) (h : n < w) : trail w f n = ∑ i ∈ range (n + 1), f i := by
  unfold trail
  rw [← sum_subset (s₁ := range (n + 1)) (range_subset_range.2 h)
    (fun i _ hi => if_neg (by rw [mem_range] at hi; omega)), ← sum_range_reflect f (n + 1)]
  refine sum_congr rfl fun i hi => ?_
  rw [mem_range] at hi
  rw [if_pos (by omega)]
  exact congrArg f (by omega)

/-- The sum of the terms before the `c`-th block of `w`, block by block. -/
theorem sum_blocks (w c : ℕ) (f : ℕ → M) : ∑ i ∈ range (w * c), f i = ∑ e ∈ range c, ∑ k ∈ range w, f (w * e + k) := by
  induction c with
  | zero => simp
  | succ c ih => rw [Nat.mul_succ, sum_range_add, ih, sum_range_succ]

/-- The sum up to row `r` of block `c`: the blocks before, and the block's own rows up to `r`. -/
theorem sum_to_row (w c r : ℕ) (f : ℕ → M) :
    ∑ i ∈ range (w * c + r + 1), f i = ∑ i ∈ range (r + 1), f (w * c + i) + ∑ e ∈ range c, ∑ k ∈ range w, f (w * e + k) := by
  rw [Nat.add_assoc, sum_range_add, sum_blocks, add_comm]

/-- Extended reals: adding a number that is not infinite and taking it away again changes nothing. -/
theorem add_take_away (a t : EReal) (h₁ : t ≠ ⊤) (h₂ : t ≠ ⊥) : a + t - t = a := by
  induction t with
  | bot => exact absurd rfl h₂
  | top => exact absurd rfl h₁
  | coe t => exact EReal.add_sub_cancel_right

/-- A sum of numbers none of them infinite is not infinite. -/
theorem sum_finite {ι : Type} (s : Finset ι) (f : ι → EReal) (h : ∀ i, f i ≠ ⊤ ∧ f i ≠ ⊥) :
    ∑ i ∈ s, f i ≠ ⊤ ∧ ∑ i ∈ s, f i ≠ ⊥ := by
  classical
  induction s using Finset.induction_on with
  | empty => simp
  | insert a s ha ih =>
    rw [sum_insert ha, ← EReal.coe_toReal (h a).1 (h a).2, ← EReal.coe_toReal ih.1 ih.2, ← EReal.coe_add]
    exact ⟨EReal.coe_ne_top _, EReal.coe_ne_bot _⟩

end Cert.Scan

end
-- ==== Proof.Values.lean ====
/-
# The kernel's values over the extended reals

What the kernel's result array holds, entry by entry: row `r` of device `c`'s block is the sum of the block's rows up to
`r`, and the totals of the devices up to `c` less the total of `c` itself.
-/
module

public import proofs.«01_k».proof.Proof.Prefix
public import proofs.«01_k».proof.Proof.Body
public import Idealize.ShloMosaic.Lib.Pointwise

@[expose] public section

set_option maxRecDepth 20000

noncomputable section

namespace Cert.Scan

open Cert.KernelIdeal Cert.KernelIdeal.Gen

open Idealize.ShloMosaic
open Finset

/-! ## Down a block -/

/-- A column of a block, as a sequence. -/
def column (x : Vec Ideal S512x512 .f32) (l : Fin 512) (n : ℕ) : EReal := if h : n < 512 then x (ix2 ⟨n, h⟩ l) else 0

/-- The column read at a row. -/
theorem column_row (x : Vec Ideal S512x512 .f32) (l r : Fin 512) : column x l r.val = x (ix2 r l) := dif_pos r.isLt

/-- Adding to an array itself, moved `w` rows down over zeros: where its entries were sums of the last `w` terms, they
    become sums of the last `w + w`. -/
theorem shift_doubles (w n : ℕ) (hs : S512x512.Slices ![0, 0] ⟨2, ![n, 512]⟩)
    (hc : Shape.Concatenates [⟨2, ![w, 512]⟩, ⟨2, ![n, 512]⟩] S512x512 0) (v : FVec Ideal S512x512 .f32)
    (f : Fin 512 → ℕ → EReal) (hv : ∀ r l : Fin 512, v (ix2 r l) = trail w (f l) r.val) (r l : Fin 512) :
    addf v (concatenate S512x512 0 [⟨⟨2, ![w, 512]⟩, broadcast ⟨2, ![w, 512]⟩ (Scalar.ofBits (F := Ideal) .f32 0x00000000#32)⟩,
      ⟨⟨2, ![n, 512]⟩, extractStridedSlice ⟨2, ![n, 512]⟩ ![0, 0] v hs⟩] hc) (ix2 r l) = trail (w + w) (f l) r.val := by
  by_cases hr : r.val < w
  · rw [trail_double_of_lt w _ _ hr, ← hv r l]
    pointwise
    rw [dif_pos hr, add_zero]
  · rw [trail_double_of_le w _ _ (by omega), ← hv r l]
    pointwise
    rw [dif_neg hr]
    exact congrArg (v (ix2 r l) + ·) (hv ⟨r.val - w, by omega⟩ l)

/-- The block's own scan: at row `r` the sum of the rows up to `r`. -/
theorem scan_value (x : Vec Ideal S512x512 .f32) (r l : Fin 512) :
    k0_pay6 (k0_pay5 x) (ix2 r l) = ∑ i ∈ range (r.val + 1), column x l i := by
  rw [← trail_all 512 (column x l) r.val r.isLt]
  refine shift_doubles 256 256 slices_S512x512_o0_0_S256x512 concatenates_S256x512_S256x512_S512x512_d0 _ (column x) ?_ r l
  refine shift_doubles 128 384 slices_S512x512_o0_0_S384x512 concatenates_S128x512_S384x512_S512x512_d0 _ (column x) ?_
  refine shift_doubles 64 448 slices_S512x512_o0_0_S448x512 concatenates_S64x512_S448x512_S512x512_d0 _ (column x) ?_
  refine shift_doubles 32 480 slices_S512x512_o0_0_S480x512 concatenates_S32x512_S480x512_S512x512_d0 _ (column x) ?_
  refine shift_doubles 16 496 slices_S512x512_o0_0_S496x512 concatenates_S16x512_S496x512_S512x512_d0 _ (column x) ?_
  refine shift_doubles 8 504 slices_S512x512_o0_0_S504x512 concatenates_S8x512_S504x512_S512x512_d0 _ (column x) ?_
  refine shift_doubles 4 508 slices_S512x512_o0_0_S508x512 concatenates_S4x512_S508x512_S512x512_d0 _ (column x) ?_
  refine shift_doubles 2 510 slices_S512x512_o0_0_S510x512 concatenates_S2x512_S510x512_S512x512_d0 _ (column x) ?_
  refine shift_doubles 1 511 slices_S512x512_o0_0_S511x512 concatenates_S1x512_S511x512_S512x512_d0 _ (column x) fun r l => ?_
  rw [trail_one, column_row, shapeCast_self]

/-! ## Across the devices -/

variable (x : Blocks Ideal)

/-- The total of column `l` on the device of rank `e`. -/
def total (l : Fin 512) (e : ℕ) : EReal := if h : e < 16 then ∑ k ∈ range 512, column (x ⟨e, h⟩) l k else 0

theorem total_device (l : Fin 512) (c : Dev nD) : total x l c.val = ∑ k ∈ range 512, column (x c) l k := dif_pos c.isLt

/-- A device's row of column totals. -/
theorem totals_value (c : Dev nD) (l : Fin 512) : k0_pay3 (x c) (ix2 0 l) = total x l c.val := by
  rw [total_device, ← Fin.sum_univ_eq_sum_range]
  simp only [column_row]
  pointwise [k0_pay3]

/-- The sum of two rows, entry by entry. -/
theorem acc_value (a b : Vec Ideal S1x512 .f32) (l : Fin 512) : acc a b (ix2 0 l) = a (ix2 0 l) + b (ix2 0 l) := by
  pointwise [acc]

/-- The rank of the device a step's distance below. -/
theorem below_val (n : ℕ) (hn : n < 4) (c : Dev nD) (h : HasSrc n c) : (dn n c).val = c.val - 2 ^ n := by
  have h' : 2 ^ n ≤ c.val := h
  have hc : c.val < 16 := c.isLt
  show (c.val + (16 - 2 ^ n)) % 16 = c.val - 2 ^ n
  generalize 2 ^ n = w at *
  omega

/-- The running row before step `n`: the totals of the last `2 ^ n` devices. -/
theorem running_value (n : ℕ) (hn : n ≤ 4) (c : Dev nD) (l : Fin 512) : runV x n c (ix2 0 l) = trail (2 ^ n) (total x l) c.val := by
  induction n generalizing c with
  | zero =>
    rw [pow_zero, trail_one, ← totals_value]
    pointwise [runV, k0_pay4]
  | succ n ih =>
    rw [pow_succ, Nat.mul_two, runV]
    by_cases h : HasSrc n c
    · rw [if_pos h, acc_value, ih (by omega), ih (by omega), below_val n (by omega) c h, trail_double_of_le _ _ _ h]
    · rw [if_neg h, ih (by omega), trail_double_of_lt _ _ _ (Nat.lt_of_not_le h)]

/-! ## The result -/

/-- The result block: the block's scan plus the difference of the running row and the block's totals. -/
theorem out_parts (t : FVec Ideal S1x512 .f32) (s : FVec Ideal S512x512 .f32) (u : FVec Ideal S1x512 .f32) (r l : Fin 512) :
    k0_pay2 t s u (ix2 r l) = s (ix2 r l) + (u (ix2 0 l) - t (ix2 0 l)) := by
  pointwise [k0_pay2]

/-- Where no entry is infinite, row `r` of device `c`'s result is the sum of its block's rows up to `r` and of the totals of
    the devices before it. -/
theorem out_value (hx : ∀ c i, x c i ≠ ⊤ ∧ x c i ≠ ⊥) (c : Dev nD) (r l : Fin 512) :
    outV x c (ix2 r l) = ∑ i ∈ range (r.val + 1), column (x c) l i + ∑ e ∈ range c.val, total x l e := by
  unfold outV
  have ht : total x l c.val ≠ ⊤ ∧ total x l c.val ≠ ⊥ := by
    rw [total_device]
    refine sum_finite _ _ fun i => ?_
    unfold column
    split
    · exact hx _ _
    · exact ⟨EReal.zero_ne_top, EReal.zero_ne_bot⟩
  rw [out_parts, scan_value, running_value x 4 le_rfl, totals_value, trail_all (2 ^ 4) _ _ c.isLt, sum_range_succ (total x l),
    add_take_away _ _ ht.1 ht.2]

end Cert.Scan

end
-- ==== Proof.Reference.lean ====
/-
# The reference's values over the extended reals

The reference's sliding sum, 8192 rows wide over 8191 rows of zeros and the array, is at row `R` the sum of the array's rows
up to `R`. Then the two sides meet: device `c`'s result block is block `c` of the reference's result.
-/
module

public import proofs.«01_k».proof.Proof.Values
public import proofs.«01_k».proof.Proof.Frames
public import Idealize.ShloMosaic.Lib.ReduceAll

@[expose] public section

set_option maxRecDepth 20000

noncomputable section

namespace Cert.Scan

open Idealize.ShloMosaic
open Idealize.ShloMosaic.TcCoe
open Idealize.SL.Sem
open Finset

/-! ## The sliding sum -/

/-- The whole array's shape, a block's, and the window's. -/
abbrev Whole : Shape := ⟨2, ![8192, 512]⟩
abbrev Part : Shape := ⟨2, ![512, 512]⟩
abbrev Wide : Shape := ⟨2, ![8192, 1]⟩

/-- A column of the whole array, as a sequence. -/
def wholeColumn (X : FVec Ideal Whole .f32) (l : Fin 512) (n : ℕ) : EReal := if h : n < 8192 then X (ix2 ⟨n, h⟩ l) else 0

/-- Adding up a list from a starting value is the starting value plus the list's sum. -/
theorem foldl_sum {ι : Type} (g : ι → EReal) (v : EReal) (L : List ι) : L.foldl (fun r n => r + g n) v = v + (L.map g).sum := by
  induction L generalizing v with
  | nil => simp
  | cons a L ih => rw [List.foldl_cons, ih, List.map_cons, List.sum_cons, add_assoc]

/-- A sliding sum at an index: the starting value plus the sum over the window's places of the entries there, of the starting
    value where a place falls outside the array. -/
theorem window_sum {s t u : Shape} (window strides lo hi : Fin s.rank → ℕ) (X : FVec Ideal s .f32) (init : FVec Ideal u .f32)
    (h : s.ReduceWindows window strides lo hi t) (hu : 0 < u.numel) (j : t.Idx) :
    Host.reduceWindowAdd window strides lo hi X init h hu j
      = init (Shape.Idx.first hu) + ∑ q : (⟨s.rank, window⟩ : Shape).Idx,
        (fun p : Fin s.rank → ℕ => if hin : ∀ a, lo a ≤ p a ∧ p a - lo a < s.size a then X (fun a => ⟨p a - lo a, (hin a).2⟩)
          else init (Shape.Idx.first hu)) fun a => (j (a.cast h.1.symm)).val * strides a + (q a).val := by
  rw [← Equiv.sum_comp (⟨s.rank, window⟩ : Shape).rowMajor.symm, Fin.sum_univ_def, ← foldl_sum]
  unfold Host.reduceWindowAdd
  rw [Ideal.hostReduceWindowAdd_def]
  unfold Ideal.hostReduceWindowAdd Host.reduceWindow
  dsimp only
  congr
  funext r n
  congr

/-- The window at row `R` and place `k` of it: the row `k` rows on from 8191 before, or a zero. -/
theorem window_entry (X : FVec Ideal Whole .f32) (R : Fin 8192) (l : Fin 512) (k : Fin 8192) (z : Fin 1)
    (p : Fin 2 → ℕ) (hp : p = fun a => (ix2 R l a).val * (![1, 1] : Fin 2 → ℕ) a + (ix2 k z a).val) :
    (if hin : ∀ a : Fin 2, (![8191, 0] : Fin 2 → ℕ) a ≤ p a ∧ p a - (![8191, 0] : Fin 2 → ℕ) a < Whole.size a
      then X (fun a => ⟨p a - (![8191, 0] : Fin 2 → ℕ) a, (hin a).2⟩) else 0)
      = if 8191 - k.val ≤ R.val then wholeColumn X l (R.val - (8191 - k.val)) else 0 := by
  have hz : z.val = 0 := by omega
  have hR := R.isLt
  have hk := k.isLt
  have p0 : p 0 = R.val + k.val := by rw [hp]; show R.val * 1 + k.val = _; rw [Nat.mul_one]
  have p1 : p 1 = l.val := by rw [hp]; show l.val * 1 + z.val = _; rw [hz, Nat.mul_one, Nat.add_zero]
  by_cases h : 8191 - k.val ≤ R.val
  · have hin : ∀ a : Fin 2, (![8191, 0] : Fin 2 → ℕ) a ≤ p a ∧ p a - (![8191, 0] : Fin 2 → ℕ) a < Whole.size a := by
      intro a
      fin_cases a
      · show 8191 ≤ p 0 ∧ p 0 - 8191 < 8192
        omega
      · show 0 ≤ p 1 ∧ p 1 - 0 < 512
        have := l.isLt
        omega
    rw [dif_pos hin, if_pos h, wholeColumn, dif_pos (by omega)]
    refine congrArg X (funext fun a => Fin.ext ?_)
    fin_cases a
    · show p 0 - 8191 = R.val - (8191 - k.val)
      omega
    · show p 1 - 0 = l.val
      omega
  · rw [if_neg h, dif_neg]
    intro hin
    have h0 : 8191 ≤ p 0 := (hin 0).1
    omega

/-- The sliding sum at row `R`: the sum of the rows up to `R`. -/
theorem window_value (X : FVec Ideal Whole .f32) {u : Shape} (init : FVec Ideal u .f32)
    (h : Whole.ReduceWindows ![8192, 1] ![1, 1] ![8191, 0] ![0, 0] Whole) (hu : 0 < u.numel)
    (hi : init (Shape.Idx.first hu) = 0) (R : Fin 8192) (l : Fin 512) :
    Host.reduceWindowAdd ![8192, 1] ![1, 1] ![8191, 0] ![0, 0] X init h hu (ix2 R l)
      = ∑ i ∈ range (R.val + 1), wholeColumn X l i := by
  rw [← trail_all 8192 _ _ R.isLt]
  rw [window_sum, hi, zero_add, sum_idx2]
  unfold trail
  rw [← sum_range_reflect _ 8192, ← Fin.sum_univ_eq_sum_range]
  refine sum_congr rfl fun k _ => ?_
  rw [Fin.sum_univ_one]
  exact window_entry X R l k 0 _ rfl

/-! ## Blocks of the whole array -/

/-- A column of block `c` is the whole array's column from row `512 c` on. -/
theorem column_block (X : FVec Ideal Whole .f32) (c : Fin 16) (l : Fin 512) (n : ℕ) (hn : n < 512) :
    column (Layout.block Part Whole 0 16 c X) l n = wholeColumn X l (512 * c.val + n) := by
  have hc := c.isLt
  rw [column, dif_pos hn, wholeColumn, dif_pos (by omega), Layout.block_apply]
  refine congrArg X (funext fun a => Fin.ext ?_)
  fin_cases a
  · show c.val * 512 + n = 512 * c.val + n
    omega
  · rfl

/-- Where no entry is infinite, the kernel's result on device `c`, run on the blocks of the array `X`, is block `c` of the
    sums of the rows of `X` up to each. -/
theorem out_is_block (X : FVec Ideal Whole .f32) (Y : FVec Ideal Whole .f32)
    (hY : ∀ (R : Fin 8192) (l : Fin 512), Y (ix2 R l) = ∑ i ∈ range (R.val + 1), wholeColumn X l i)
    (hx : ∀ (c : Fin 16) i, Layout.block Part Whole 0 16 c X (by decide) i ≠ ⊤ ∧ Layout.block Part Whole 0 16 c X (by decide) i ≠ ⊥)
    (c : Fin 16) :
    outV (F := Ideal) (fun e : Fin 16 => Layout.block Part Whole 0 16 e X) c = Layout.block Part Whole 0 16 c Y := by
  funext i
  obtain ⟨r, l, rfl⟩ : ∃ r l : Fin 512, i = ix2 r l := ⟨i 0, i 1, eq_ix2 i⟩
  have hc := c.isLt
  have hr := r.isLt
  have e : Layout.block Part Whole 0 16 c Y (by decide) (ix2 r l) = Y (ix2 ⟨512 * c.val + r.val, by omega⟩ l) := by
    rw [Layout.block_apply]
    refine congrArg Y (funext fun a => Fin.ext ?_)
    fin_cases a
    · show c.val * 512 + r.val = 512 * c.val + r.val
      omega
    · rfl
  rw [e, hY, out_value _ hx c r l, sum_to_row]
  refine congrArg₂ (· + ·) (sum_congr rfl fun n hn => ?_) (sum_congr rfl fun d hd => ?_)
  · rw [mem_range] at hn
    exact column_block X c l n (by omega)
  · rw [mem_range] at hd
    rw [total, dif_pos (by omega)]
    refine sum_congr rfl fun k hk => ?_
    rw [mem_range] at hk
    exact column_block X ⟨d, by omega⟩ l k hk

/-! ## The precondition -/

/-- A comparison's bit is set only where the comparison holds. -/
theorem bit_true (b : Bool) (h : BitVec.ofBool b = 1#1) : b = true := by
  cases b
  · exact absurd h (by decide)
  · rfl

/-- A block of which `finite` holds has no infinite entry. -/
theorem not_infinite (x : FVec Ideal Part .f32) (h : Cert.Pre_finite_KernelIdeal.fn (F := Ideal) x = fun _ => 1#1) (i : Part.Idx) :
    x i ≠ ⊤ ∧ x i ≠ ⊥ := by
  have hj := congrFun h (fun a => a.elim0)
  dsimp only [Cert.Pre_finite_KernelIdeal.fn] at hj
  have hi := Host.reduce_andi_all (t := Cert.Pre_finite_KernelIdeal.S_) _ _ _ _ _ hj i
  have hlt : max (x i) (-x i) < ⊤ := by
    have top : Ideal.ofBits .f32 2139095040#32 = ⊤ := by simp [Ideal.ofBits, Ideal.ieee]
    revert hi
    pointwise
    rw [top]
    intro hi
    exact of_decide_eq_true (bit_true _ hi)
  constructor
  · intro e; rw [e] at hlt; simp at hlt
  · intro e; rw [e] at hlt; simp at hlt

/-! ## The claim -/

/-- From blocks of the reference's argument, none infinite: both programs run, the kernel's result on device `c` is block `c`
    of the reference's, and both leave their arguments as they were. -/
theorem values_agree : Cert.algebraic_KernelIdeal_ReferenceIdeal_pre_finite_KernelIdeal := fun m g m' g' hpre hblk => by
  refine ⟨_, (θ_run Cert.KernelIdeal.defs _ _).mono (fun r h c => ⟨(h.1 c).1.trans ?_, (h.1 c).2⟩) (run_main (F := Ideal) m g),
    (θ_run Cert.ReferenceIdeal.defs _ _).mono (fun r h => h 0) (Cert.ReferenceIdeal.Value.run (F := Ideal) m' g')⟩
  rw [show (fun e : Dev Cert.KernelIdeal.nD => m ((e : Thread Cert.KernelIdeal.nD Cert.KernelIdeal.τ).loc Cert.KernelIdeal.main_arg0))
    = fun e => Layout.block Part Whole 0 16 e (m' (((0 : Dev Cert.ReferenceIdeal.nD).tc : Thread Cert.ReferenceIdeal.nD Cert.ReferenceIdeal.τ).loc Cert.ReferenceIdeal.main_arg0)) from funext hblk]
  refine out_is_block _ _ (fun R l => window_value _ _ _ _ ?_ R l) (fun c i => ?_) c
  · pointwise
  · have := not_infinite _ (hpre c) i
    rw [hblk c] at this
    exact this

end Cert.Scan

end
-- ==== Proof.lean ====
/-
# The claim

Every part of the claim, from the modules beside this one: the frames (Frames.lean) and the values (Reference.lean). No
operation of the kernel is rewritten, so the idealization is the kernel's own text.
-/
module

public import proofs.«01_k».proof.Defs
public import proofs.«01_k».proof.Proof.Frames
public import proofs.«01_k».proof.Proof.Reference

@[expose] public section

noncomputable section

namespace Cert.Proof

/-- The kernel, its idealization and the reference run to the end from any memory, leave their arguments unchanged and every
    semaphore at zero; and over the extended reals, from finite inputs, each device's result is its block of the reference's. -/
theorem claim : Cert.Claim :=
  ⟨Cert.Kernel.Gen.facts, Cert.KernelIdeal.Gen.facts, Cert.ReferenceIdeal.Gen.facts, Cert.Pre_finite_KernelIdeal.Gen.facts,
    Cert.Pre_finite_ReferenceIdeal.Gen.facts, Cert.Scan.frame_kernel, Cert.Scan.frame_ideal, Cert.Scan.frame_ideal_finite,
    Cert.Scan.frame_reference, Cert.Scan.frame_reference_finite, trivial, Cert.Scan.values_agree⟩

end Cert.Proof

end
